-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_one_segment_pre_zero_biases [hKernelIdeal : Cert.KernelIdeal.Facts] [hReferenceIdeal : Cert.ReferenceIdeal.Facts] [hPre_zero_biases : Cert.Pre_zero_biases.Facts] [hOn_one_segment : Cert.On_one_segment.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 2048]⟩ : Shape).Idx, (Cert.On_one_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v4_0) i = v0 c i)
          ∧ (∀ i : (⟨2, ![8192, 1]⟩ : Shape).Idx, (Cert.On_one_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v6) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 2048]⟩ : Shape).Idx, (Cert.On_one_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v52) i = v0 c i)
          ∧ (∀ i : (⟨2, ![8192, 1]⟩ : Shape).Idx, (Cert.On_one_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v55) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_zero_biases : Cert.Pre_zero_biases.Facts) (hOn_one_segment : Cert.On_one_segment.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_on_one_segment_pre_zero_biases (hKernelIdeal := hKernelIdeal) (hReferenceIdeal := hReferenceIdeal) (hPre_zero_biases := hPre_zero_biases) (hOn_one_segment := hOn_one_segment)
-- ==== On_one_segment.lean ====
abbrev S8192x2048 : Shape := ⟨2, ![8192, 2048]⟩
abbrev S8192x1 : Shape := ⟨2, ![8192, 1]⟩
abbrev S1024x64 : Shape := ⟨2, ![1024, 64]⟩
abbrev S64 : Shape := ⟨1, ![64]⟩
abbrev S64x8192 : Shape := ⟨2, ![64, 8192]⟩
abbrev S8192 : Shape := ⟨1, ![8192]⟩
abbrev S8192x1024 : Shape := ⟨2, ![8192, 1024]⟩
abbrev S_ : Shape := ⟨0, ![]⟩
abbrev S8 : Shape := ⟨1, ![8]⟩
abbrev S1 : Shape := ⟨1, ![1]⟩
abbrev S9 : Shape := ⟨1, ![9]⟩
abbrev S8192x1024x1 : Shape := ⟨3, ![8192, 1024, 1]⟩
abbrev S1x1x9 : Shape := ⟨3, ![1, 1, 9]⟩
abbrev S8192x1024x9 : Shape := ⟨3, ![8192, 1024, 9]⟩

class Facts : Prop where
  slices_S8192x2048_S8192x1024_0_1024 : S8192x2048.Slices ![0, 1024] S8192x1024
  bcast_S_S8 : S_.BroadcastsInDim S8 (![] : Fin 0 → Fin S8.rank)
  shapeCasts_S_S1 : S_.ShapeCasts S1
  bcast_S1_S8_0 : S1.BroadcastsInDim S8 (![0] : Fin 1 → Fin S8.rank)
  bcast_S_S1 : S_.BroadcastsInDim S1 (![] : Fin 0 → Fin S1.rank)
  concatenates_S8_S1_S9_d0 : Shape.Concatenates [S8, S1] S9 0
  bcast_S8192x1024_S8192x1024x1_0_1 : S8192x1024.BroadcastsInDim S8192x1024x1 (![0, 1] : Fin 2 → Fin S8192x1024x1.rank)
  bcast_S9_S1x1x9_2 : S9.BroadcastsInDim S1x1x9 (![2] : Fin 1 → Fin S1x1x9.rank)
  bcast_S1x1x9_S8192x1024x9_0_1_2 : S1x1x9.BroadcastsInDim S8192x1024x9 (![0, 1, 2] : Fin 3 → Fin S8192x1024x9.rank)
  bcast_S8192x1024x1_S8192x1024x9_0_1_2 : S8192x1024x1.BroadcastsInDim S8192x1024x9 (![0, 1, 2] : Fin 3 → Fin S8192x1024x9.rank)
  natLt_1_32 : 1 < 32
  reducesTo_S8192x1024x9_S8192x1024_d2 : S8192x1024x9.ReducesTo [2] S8192x1024
  h_S_ : 0 < S_.numel
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  reducesTo_S8192x1024_S8192_d1 : S8192x1024.ReducesTo [1] S8192
  bcast_S8192_S8192x1_0 : S8192.BroadcastsInDim S8192x1 (![0] : Fin 1 → Fin S8192x1.rank)

variable [Facts]

def fn_linspace {F : FTy → Type} [FloatOps F] (arg0 : FVec F S_ .f32) (arg1 : FVec F S_ .f32) : FVec F S9 .f32 :=
  let v0 : FVec F S_ .f32 := id arg0
  let v1 : FVec F S_ .f32 := id arg1
  let v2 : FVec F S_ .f32 := subf v1 v0
  let cst : FVec F S_ .f32 := constant S_ .f32 0x41000000#32
  let v3 : FVec F S_ .f32 := Host.divf v2 cst
  let v4 : FVec F S8 .f32 := sitofp .f32 (iotaInDim S8 32 0)
  let cst_0 : FVec F S_ .f32 := constant S_ .f32 0x41000000#32
  let v5 : FVec F S8 .f32 := broadcastInDim S8 ![] bcast_S_S8 cst_0
  let v6 : FVec F S8 .f32 := Host.divf v4 v5
  let v7 : FVec F S1 .f32 := shapeCast S1 v0 shapeCasts_S_S1
  let cst_1 : FVec F S_ .f32 := constant S_ .f32 0x3F800000#32
  let v8 : FVec F S8 .f32 := broadcastInDim S8 ![] bcast_S_S8 cst_1
  let v9 : FVec F S8 .f32 := subf v8 v6
  let v10 : FVec F S8 .f32 := broadcastInDim S8 ![0] bcast_S1_S8_0 v7
  let v11 : FVec F S8 .f32 := mulf v10 v9
  let v12 : FVec F S1 .f32 := shapeCast S1 v1 shapeCasts_S_S1
  let v13 : FVec F S8 .f32 := broadcastInDim S8 ![0] bcast_S1_S8_0 v12
  let v14 : FVec F S8 .f32 := mulf v13 v6
  let v15 : FVec F S8 .f32 := addf v11 v14
  let v16 : FVec F S1 .f32 := broadcastInDim S1 ![] bcast_S_S1 v1
  let v17 : FVec F S9 .f32 := (fun a b => concatenate S9 0 [⟨S8, a⟩, ⟨S1, b⟩] concatenates_S8_S1_S9_d0) v15 v16
  v17

def fn_part1 {F : FTy → Type} [FloatOps F] (main_v0 : FVec F S8192x1024 .f32) (main_v10 : IVec S8192x1024 32) (main_v15 : IVec S8192x1024 1) (main_v16 : FVec F S8192x1024 .f32) : IVec S8192x2048 1 × IVec S8192x1 1 :=
  let main_v17 : FVec F S8192x1024 .f32 := mulf main_v0 main_v16
  let main_v18 : FVec F S8192x1024 .f32 := Host.floor main_v17
  let main_v19 : FVec F S8192x1024 .f32 := sitofp .f32 main_v10
  let main_v20 : IVec S8192x1024 1 := cmpf .oeq main_v18 main_v19
  let main_v21 : IVec S8192x1024 1 := andi main_v15 main_v20
  let main_c_5 : IVec S_ 1 := constantI S_ 1 1#1
  let main_v22 : IVec S8192x1024 1 := broadcastInDim S8192x1024 ![] bcast_S_S8192x1024 main_c_5
  let main_v23 : IVec S8192x2048 1 := (fun a b => concatenate S8192x2048 1 [⟨S8192x1024, a⟩, ⟨S8192x1024, b⟩] concatenates_S8192x1024_S8192x1024_S8192x2048_d1) main_v22 main_v21
  let main_c_6 : IVec S_ 1 := constantI S_ 1 1#1
  let main_v24 : IVec S8192 1 := (fun x v => Host.reduce IntOp.andi x v reducesTo_S8192x1024_S8192_d1 h_S_) main_v21 main_c_6
  let main_v25 : IVec S8192x1 1 := broadcastInDim S8192x1 ![0] bcast_S8192_S8192x1_0 main_v24
  (main_v23, main_v25)

def fn {F : FTy → Type} [FloatOps F] (main_arg0 : FVec F S8192x2048 .f32) (main_arg1 : FVec F S8192x1 .f32) (main_arg2 : FVec F S1024x64 .f32) (main_arg3 : FVec F S64 .f32) (main_arg4 : FVec F S64x8192 .f32) (main_arg5 : FVec F S8192 .f32) : IVec S8192x2048 1 × IVec S8192x1 1 :=
  let main_v0 : FVec F S8192x1024 .f32 := (extractStridedSlice S8192x1024 ![0, 1024] · slices_S8192x2048_S8192x1024_0_1024) main_arg0
  let main_cst : FVec F S_ .f32 := constant S_ .f32 0xB58637BD#32
  let main_cst_0 : FVec F S_ .f32 := constant S_ .f32 0x3F800008#32
  let main_v1 : FVec F S9 .f32 := fn_linspace (F := F) main_cst main_cst_0
  let main_v2 : FVec F S8192x1024x1 .f32 := broadcastInDim S8192x1024x1 ![0, 1] bcast_S8192x1024_S8192x1024x1_0_1 main_v0
  let main_v3 : FVec F S1x1x9 .f32 := broadcastInDim S1x1x9 ![2] bcast_S9_S1x1x9_2 main_v1
  let main_v4 : FVec F S8192x1024x9 .f32 := broadcastInDim S8192x1024x9 ![0, 1, 2] bcast_S1x1x9_S8192x1024x9_0_1_2 main_v3
  let main_v5 : FVec F S8192x1024x9 .f32 := broadcastInDim S8192x1024x9 ![0, 1, 2] bcast_S8192x1024x1_S8192x1024x9_0_1_2 main_v2
  let main_v6 : IVec S8192x1024x9 1 := cmpf .olt main_v4 main_v5
  let main_v7 : IVec S8192x1024x9 32 := (extui 32 · natLt_1_32) main_v6
  let main_c : IVec S_ 32 := constantI S_ 32 0#32
  let main_v8 : IVec S8192x1024 32 := (fun x v => Host.reduce IntOp.addi x v reducesTo_S8192x1024x9_S8192x1024_d2 h_S_) main_v7 main_c
  let main_c_1 : IVec S_ 32 := constantI S_ 32 1#32
  let main_v9 : IVec S8192x1024 32 := broadcastInDim S8192x1024 ![] bcast_S_S8192x1024 main_c_1
  let main_v10 : IVec S8192x1024 32 := subi main_v8 main_v9
  let main_cst_2 : FVec F S_ .f32 := constant S_ .f32 0x00000000#32
  let main_v11 : FVec F S8192x1024 .f32 := broadcastInDim S8192x1024 ![] bcast_S_S8192x1024 main_cst_2
  let main_v12 : IVec S8192x1024 1 := cmpf .oge main_v0 main_v11
  let main_cst_3 : FVec F S_ .f32 := constant S_ .f32 0x3F800000#32
  let main_v13 : FVec F S8192x1024 .f32 := broadcastInDim S8192x1024 ![] bcast_S_S8192x1024 main_cst_3
  let main_v14 : IVec S8192x1024 1 := cmpf .olt main_v0 main_v13
  let main_v15 : IVec S8192x1024 1 := andi main_v12 main_v14
  let main_cst_4 : FVec F S_ .f32 := constant S_ .f32 0x41000000#32
  let main_v16 : FVec F S8192x1024 .f32 := broadcastInDim S8192x1024 ![] bcast_S_S8192x1024 main_cst_4
  fn_part1 (F := F) main_v0 main_v10 main_v15 main_v16
-- ==== Pre_zero_biases.lean ====
abbrev S8192x2048 : Shape := ⟨2, ![8192, 2048]⟩
abbrev S8192x1 : Shape := ⟨2, ![8192, 1]⟩
abbrev S1024x64 : Shape := ⟨2, ![1024, 64]⟩
abbrev S64 : Shape := ⟨1, ![64]⟩
abbrev S64x8192 : Shape := ⟨2, ![64, 8192]⟩
abbrev S8192 : Shape := ⟨1, ![8192]⟩
abbrev S64x1 : Shape := ⟨2, ![64, 1]⟩
abbrev S_ : Shape := ⟨0, ![]⟩
abbrev S1x8192 : Shape := ⟨2, ![1, 8192]⟩

class Facts : Prop where
  bcast_S64_S64x1_0 : S64.BroadcastsInDim S64x1 (![0] : Fin 1 → Fin S64x1.rank)
  bcast_S_S64x1 : S_.BroadcastsInDim S64x1 (![] : Fin 0 → Fin S64x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S64x1_S64x8192_0_1 : S64x1.BroadcastsInDim S64x8192 (![0, 1] : Fin 2 → Fin S64x8192.rank)
  bcast_S1x8192_S64x8192_0_1 : S1x8192.BroadcastsInDim S64x8192 (![0, 1] : Fin 2 → Fin S64x8192.rank)

variable [Facts]

def fn {F : FTy → Type} [FloatOps F] (main_arg0 : FVec F S8192x2048 .f32) (main_arg1 : FVec F S8192x1 .f32) (main_arg2 : FVec F S1024x64 .f32) (main_arg3 : FVec F S64 .f32) (main_arg4 : FVec F S64x8192 .f32) (main_arg5 : FVec F S8192 .f32) : IVec S64x8192 1 :=
  let main_v0 : FVec F S64x1 .f32 := broadcastInDim S64x1 ![0] bcast_S64_S64x1_0 main_arg3
  let main_cst : FVec F S_ .f32 := constant S_ .f32 0x00000000#32
  let main_v1 : FVec F S64x1 .f32 := broadcastInDim S64x1 ![] bcast_S_S64x1 main_cst
  let main_v2 : IVec S64x1 1 := cmpf .oeq main_v0 main_v1
  let main_v3 : FVec F S1x8192 .f32 := broadcastInDim S1x8192 ![1] bcast_S8192_S1x8192_1 main_arg5
  let main_cst_0 : FVec F S_ .f32 := constant S_ .f32 0x00000000#32
  let main_v4 : FVec F S1x8192 .f32 := broadcastInDim S1x8192 ![] bcast_S_S1x8192 main_cst_0
  let main_v5 : IVec S1x8192 1 := cmpf .oeq main_v3 main_v4
  let main_v6 : IVec S64x8192 1 := broadcastInDim S64x8192 ![0, 1] bcast_S64x1_S64x8192_0_1 main_v2
  let main_v7 : IVec S64x8192 1 := broadcastInDim S64x8192 ![0, 1] bcast_S1x8192_S64x8192_0_1 main_v5
  let main_v8 : IVec S64x8192 1 := andi main_v6 main_v7
  main_v8
-- ==== Kernel.lean ====
abbrev S8192x2048 : Shape := ⟨2, ![8192, 2048]⟩
abbrev S8192x1 : Shape := ⟨2, ![8192, 1]⟩
abbrev S1024x64 : Shape := ⟨2, ![1024, 64]⟩
abbrev S64 : Shape := ⟨1, ![64]⟩
abbrev S64x8192 : Shape := ⟨2, ![64, 8192]⟩
abbrev S8192 : Shape := ⟨1, ![8192]⟩
abbrev S64x1024x8 : Shape := ⟨3, ![64, 1024, 8]⟩
abbrev S8x64x1024 : Shape := ⟨3, ![8, 64, 1024]⟩
abbrev S512x1024 : Shape := ⟨2, ![512, 1024]⟩
abbrev S8x1x1024 : Shape := ⟨3, ![8, 1, 1024]⟩
abbrev S1024x2048 : Shape := ⟨2, ![1024, 2048]⟩
abbrev S1x1x1024 : Shape := ⟨3, ![1, 1, 1024]⟩
abbrev S1024x1024 : Shape := ⟨2, ![1024, 1024]⟩
abbrev S64x1024 : Shape := ⟨2, ![64, 1024]⟩
abbrev S1024 : Shape := ⟨1, ![1024]⟩
abbrev S1024x1 : Shape := ⟨2, ![1024, 1]⟩

abbrev nBuf : Space → Nat
  | .hbm => 14
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x1, .f32⟩
  | .hbm, ⟨2, _⟩ => ⟨S1024x64, .f32⟩
  | .hbm, ⟨3, _⟩ => ⟨S64, .f32⟩
  | .hbm, ⟨4, _⟩ => ⟨S64x8192, .f32⟩
  | .hbm, ⟨5, _⟩ => ⟨S8192, .f32⟩
  | .hbm, ⟨6, _⟩ => ⟨S64x1024x8, .f32⟩
  | .hbm, ⟨7, _⟩ => ⟨S8x64x1024, .f32⟩
  | .hbm, ⟨8, _⟩ => ⟨S512x1024, .f32⟩
  | .hbm, ⟨9, _⟩ => ⟨S512x1024, .bf16⟩
  | .hbm, ⟨10, _⟩ => ⟨S8192x2048, .f32⟩
  | .hbm, ⟨11, _⟩ => ⟨S8x1x1024, .f32⟩
  | .hbm, ⟨12, _⟩ => ⟨S8192x1, .f32⟩
  | .hbm, ⟨13, _⟩ => ⟨S8192x1, .f32⟩
  | .local _ .vmem, ⟨0, _⟩ => ⟨S1024x2048, .f32⟩
  | .local _ .vmem, ⟨1, _⟩ => ⟨S1024x2048, .f32⟩
  | .local _ .vmem, ⟨2, _⟩ => ⟨S1024x64, .f32⟩
  | .local _ .vmem, ⟨3, _⟩ => ⟨S512x1024, .bf16⟩
  | .local _ .vmem, ⟨4, _⟩ => ⟨S1024x2048, .f32⟩
  | .local _ .vmem, ⟨5, _⟩ => ⟨S1024x2048, .f32⟩
  | .local _ .vmem, ⟨6, _⟩ => ⟨S1x1x1024, .f32⟩
  | .local _ .vmem, ⟨7, _⟩ => ⟨S1x1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x2048 : Shape := ⟨2, ![8192, 2048]⟩
abbrev S8192x1 : Shape := ⟨2, ![8192, 1]⟩
abbrev S1024x64 : Shape := ⟨2, ![1024, 64]⟩
abbrev S64 : Shape := ⟨1, ![64]⟩
abbrev S64x8192 : Shape := ⟨2, ![64, 8192]⟩
abbrev S8192 : Shape := ⟨1, ![8192]⟩
abbrev S8192x1024 : Shape := ⟨2, ![8192, 1024]⟩
abbrev S_ : Shape := ⟨0, ![]⟩
abbrev S8192x64 : Shape := ⟨2, ![8192, 64]⟩
abbrev S1x64 : Shape := ⟨2, ![1, 64]⟩
abbrev S8192x8192 : Shape := ⟨2, ![8192, 8192]⟩
abbrev S1x8192 : Shape := ⟨2, ![1, 8192]⟩
abbrev S8192x1024x8 : Shape := ⟨3, ![8192, 1024, 8]⟩
abbrev S8192x1024x1 : Shape := ⟨3, ![8192, 1024, 1]⟩
abbrev S8192x1024x9 : Shape := ⟨3, ![8192, 1024, 9]⟩
abbrev S8 : Shape := ⟨1, ![8]⟩
abbrev S1 : Shape := ⟨1, ![1]⟩
abbrev S9 : Shape := ⟨1, ![9]⟩
abbrev S1x1x9 : Shape := ⟨3, ![1, 1, 9]⟩
abbrev S8192x1024x1x1 : Shape := ⟨4, ![8192, 1024, 1, 1]⟩
abbrev S1x1x1x1 : Shape := ⟨4, ![1, 1, 1, 1]⟩

abbrev nBuf : Space → Nat
  | .hbm => 138
  | .vmem => 0
  | .smem => 0
  | _ => 0

abbrev hbmTy0_0 (i : Nat) : BufTy := match i % 128 with
  | 0 => ⟨S8192x2048, .f32⟩
  | 1 => ⟨S8192x1, .f32⟩
  | 2 => ⟨S1024x64, .f32⟩
  | 3 => ⟨S64, .f32⟩
  | 4 => ⟨S64x8192, .f32⟩
  | 5 => ⟨S8192, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S8192x64, .f32⟩
  | 12 => ⟨S1x64, .f32⟩
  | 13 => ⟨S8192x64, .f32⟩
  | 14 => ⟨S8192x64, .f32⟩
  | 15 => ⟨S8192x64, .f32⟩
  | 16 => ⟨S8192x8192, .f32⟩
  | 17 => ⟨S1x8192, .f32⟩
  | 18 => ⟨S8192x8192, .f32⟩
  | 19 => ⟨S8192x8192, .f32⟩
  | 20 => ⟨S8192x8192, .f32⟩
  | 21 => ⟨S8192x1024x8, .f32⟩
  | 22 => ⟨S_, .f32⟩
  | 23 => ⟨S8192x1024, .f32⟩
  | 24 => ⟨S_, .f32⟩
  | 25 => ⟨S8192x1024, .f32⟩
  | 26 => ⟨S8192x1024, .f32⟩
  | 27 => ⟨S8192x1024x1, .f32⟩
  | 28 => ⟨S8192x1024x8, .f32⟩
  | 29 => ⟨S8192x1024x8, .f32⟩
  | 30 => ⟨S8192x1024x8, .f32⟩
  | 31 => ⟨S_, .f32⟩
  | 32 => ⟨S8192x1024, .f32⟩
  | 33 => ⟨S8192x1024x1, .f32⟩
  | 34 => ⟨S8192x1024x8, .f32⟩
  | 35 => ⟨S8192x1024x8, .f32⟩
  | 36 => ⟨S_, .f32⟩
  | 37 => ⟨S8192x1024x1, .f32⟩
  | 38 => ⟨S_, .f32⟩
  | 39 => ⟨S_, .f32⟩
  | 40 => ⟨S8192x1024x8, .f32⟩
  | 41 => ⟨S8192x1024x9, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S8, .f32⟩
  | 50 => ⟨S_, .f32⟩
  | 51 => ⟨S8, .f32⟩
  | 52 => ⟨S8, .f32⟩
  | 53 => ⟨S1, .f32⟩
  | 54 => ⟨S_, .f32⟩
  | 55 => ⟨S8, .f32⟩
  | 56 => ⟨S8, .f32⟩
  | 57 => ⟨S8, .f32⟩
  | 58 => ⟨S8, .f32⟩
  | 59 => ⟨S1, .f32⟩
  | 60 => ⟨S8, .f32⟩
  | 61 => ⟨S8, .f32⟩
  | 62 => ⟨S8, .f32⟩
  | 63 => ⟨S1, .f32⟩
  | 64 => ⟨S9, .f32⟩
  | 65 => ⟨S8192x1024x1, .f32⟩
  | 66 => ⟨S1x1x9, .f32⟩
  | 67 => ⟨S8192x1024x9, .f32⟩
  | 68 => ⟨S8192x1024x9, .f32⟩
  | 69 => ⟨S8192x1024x9, .i1⟩
  | 70 => ⟨S8192x1024x9, .i32⟩
  | 71 => ⟨S_, .i32⟩
  | 72 => ⟨S8192x1024, .i32⟩
  | 73 => ⟨S_, .i32⟩
  | 74 => ⟨S8192x1024, .i32⟩
  | 75 => ⟨S8192x1024, .i32⟩
  | 76 => ⟨S8192x1024x1, .i32⟩
  | 77 => ⟨S_, .i32⟩
  | 78 => ⟨S8192x1024x1, .i32⟩
  | 79 => ⟨S8192x1024x1, .i1⟩
  | 80 => ⟨S_, .i32⟩
  | 81 => ⟨S8192x1024x1, .i32⟩
  | 82 => ⟨S8192x1024x1, .i32⟩
  | 83 => ⟨S8192x1024x1, .i32⟩
  | 84 => ⟨S8192x1024x1x1, .i32⟩
  | 85 => ⟨S1, .i32⟩
  | 86 => ⟨S_, .i32⟩
  | 87 => ⟨S8192x1024x1x1, .i32⟩
  | 88 => ⟨S8192x1024x1x1, .i1⟩
  | 89 => ⟨S1x1x1x1, .i32⟩
  | 90 => ⟨S8192x1024x1x1, .i32⟩
  | 91 => ⟨S8192x1024x1x1, .i1⟩
  | 92 => ⟨S8192x1024x1x1, .i1⟩
  | 93 => ⟨S_, .i1⟩
  | 94 => ⟨S8192x1024x1, .i1⟩
  | 95 => ⟨S8192x1024x1, .f32⟩
  | 96 => ⟨S_, .f32⟩
  | 97 => ⟨S8192x1024x1, .f32⟩
  | 98 => ⟨S8192x1024x1, .f32⟩
  | 99 => ⟨S8192x1024x1, .f32⟩
  | 100 => ⟨S8192x1024x1, .f32⟩
  | 101 => ⟨S_, .f32⟩
  | 102 => ⟨S8192x1024x1, .f32⟩
  | 103 => ⟨S8192x1024x1, .f32⟩
  | 104 => ⟨S8192x1024x1, .f32⟩
  | 105 => ⟨S_, .f32⟩
  | 106 => ⟨S8192x1024x1, .f32⟩
  | 107 => ⟨S8192x1024x1, .f32⟩
  | 108 => ⟨S_, .i32⟩
  | 109 => ⟨S8192x1024x1, .i32⟩
  | 110 => ⟨S8192x1024x1, .i1⟩
  | 111 => ⟨S_, .i32⟩
  | 112 => ⟨S8192x1024x1, .i32⟩
  | 113 => ⟨S8192x1024x1, .i32⟩
  | 114 => ⟨S8192x1024x1, .i32⟩
  | 115 => ⟨S8192x1024x1x1, .i32⟩
  | 116 => ⟨S1, .i32⟩
  | 117 => ⟨S_, .i32⟩
  | 118 => ⟨S8192x1024x1x1, .i32⟩
  | 119 => ⟨S8192x1024x1x1, .i1⟩
  | 120 => ⟨S1x1x1x1, .i32⟩
  | 121 => ⟨S8192x1024x1x1, .i32⟩
  | 122 => ⟨S8192x1024x1x1, .i1⟩
  | 123 => ⟨S8192x1024x1x1, .i1⟩
  | 124 => ⟨S_, .i1⟩
  | 125 => ⟨S8192x1024x1, .i1⟩
  | 126 => ⟨S8192x1024x1, .f32⟩
  | 127 => ⟨S_, .f32⟩
  | _ => ⟨S8192x2048, .f32⟩

abbrev hbmTy0_1 (i : Nat) : BufTy := match i % 128 with
  | 0 => ⟨S8192x1024x1, .f32⟩
  | 1 => ⟨S8192x1024x1, .f32⟩
  | 2 => ⟨S8192x1024x1, .f32⟩
  | 3 => ⟨S8192x1024x1, .f32⟩
  | 4 => ⟨S8192x1024, .f32⟩
  | 5 => ⟨S8192x2048, .f32⟩
  | 6 => ⟨S8192x1024x1, .f32⟩
  | 7 => ⟨S_, .f32⟩
  | 8 => ⟨S8192x1, .f32⟩
  | 9 => ⟨S8192x1, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_call0_call0_cst : Ref sig .tc := ⟨.hbm, 38, rfl⟩
abbrev main_call0_call0_v0 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_cst : Ref sig .tc := ⟨.hbm, 47, rfl⟩
abbrev main_call1_v3 : Ref sig .tc := ⟨.hbm, 48, rfl⟩
abbrev main_call1_v4 : Ref sig .tc := ⟨.hbm, 49, rfl⟩
abbrev main_call1_cst_0 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_v16 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c : Ref sig .tc := ⟨.hbm, 71, rfl⟩
abbrev main_v36 : Ref sig .tc := ⟨.hbm, 72, rfl⟩
abbrev main_c_6 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_7 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_8 : Ref sig .tc := ⟨.hbm, 105, rfl⟩
abbrev main_v46 : Ref sig .tc := ⟨.hbm, 106, rfl⟩
abbrev main_v47 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_c_1 : Ref sig .tc := ⟨.hbm, 116, rfl⟩
abbrev main_call3_c_2 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_3 : Ref sig .tc := ⟨.hbm, 124, rfl⟩
abbrev main_call3_v12 : Ref sig .tc := ⟨.hbm, 125, rfl⟩
abbrev main_call3_v13 : Ref sig .tc := ⟨.hbm, 126, rfl⟩
abbrev main_call3_cst : Ref sig .tc := ⟨.hbm, 127, rfl⟩
abbrev main_call3_v14 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_cst_9 : Ref sig .tc := ⟨.hbm, 135, rfl⟩
abbrev main_v54 : Ref sig .tc := ⟨.hbm, 136, rfl⟩
abbrev main_v55 : Ref sig .tc := ⟨.hbm, 137, rfl⟩

abbrev nD : Nat := 1
abbrev τ : Topo := Topo.v7x

variable {F : FTy → Type} [FloatOps F]
-- ==== Proof.Spline.lean ====
/-
  The equation between the two ways of evaluating a piecewise linear map and its slope, over the reals and as
  the extended reals both programs compute with. The kernel keeps the eight exponentials of one component as they
  are, picks the current one and the sum of those before it by the segment's number, and divides once by their
  sum; the reference first subtracts the greatest exponent, divides each exponential by the sum, and then
  gathers. Nothing here mentions an array.
-/
module

public import Idealize.ShloMosaic.PureOps.Ideal.Laws
public import Mathlib.Data.EReal.Operations
public import Mathlib.Algebra.BigOperators.Fin
public import Mathlib.Analysis.SpecialFunctions.Log.Basic

@[expose] public section

noncomputable section

namespace Spline

open Idealize.ShloMosaic

/-! ## The small network -/

/-- One hidden unit of one row: the row's first half, a half subtracted from each component, through the first
    layer's column `q` and the hyperbolic tangent. -/
def hid (xr : Fin 2048 → EReal) (w1 : Fin 1024 → Fin 64 → EReal) (q : Fin 64) : EReal :=
  Ideal.tanh (∑ k : Fin 1024, (xr ⟨k.val, by omega⟩ - Ideal.ofBits .f32 0x3F000000#32) * w1 k q)

/-- One exponent of one row: the hidden units through one column of the second layer and the hyperbolic tangent. -/
def logit (xr : Fin 2048 → EReal) (w1 : Fin 1024 → Fin 64 → EReal) (w : Fin 64 → EReal) : EReal :=
  Ideal.tanh (∑ q : Fin 64, hid xr w1 q * w q)

/-! ## The reals -/

/-- The sum of eight numbers' exponentials. -/
def total (τ : Fin 8 → ℝ) : ℝ := ∑ s, Real.exp (τ s)

/-- The sum of the first `n` of eight numbers' exponentials. -/
def below (τ : Fin 8 → ℝ) (n : ℕ) : ℝ := ∑ s : Fin 8, if s.val < n then Real.exp (τ s) else 0

/-- The value, at `x` of segment `k`, of the piecewise linear map whose segments' heights are in proportion to the
    exponentials. -/
def phi (τ : Fin 8 → ℝ) (x : ℝ) (k : Fin 8) : ℝ :=
  (below τ k.val + (x * 8 - k.val) * Real.exp (τ k)) / total τ

/-- The height of segment `k`: its exponential's share of the sum. -/
def share (τ : Fin 8 → ℝ) (k : Fin 8) : ℝ := Real.exp (τ k) / total τ

theorem total_pos (τ : Fin 8 → ℝ) : 0 < total τ :=
  Finset.sum_pos (fun _ _ => Real.exp_pos _) Finset.univ_nonempty

theorem share_pos (τ : Fin 8 → ℝ) (k : Fin 8) : 0 < share τ k := div_pos (Real.exp_pos _) (total_pos τ)

/-- Subtracting one number from every exponent changes no share. -/
theorem share_shift (τ : Fin 8 → ℝ) (μ : ℝ) (k : Fin 8) :
    Real.exp (τ k - μ) / ∑ s, Real.exp (τ s - μ) = share τ k := by
  have h : ∀ s, Real.exp (τ s - μ) = Real.exp (τ s) * Real.exp (-μ) := fun s => by rw [← Real.exp_add]; rfl
  simp only [h, ← Finset.sum_mul]
  exact mul_div_mul_right _ _ (Real.exp_pos _).ne'

/-! ## Extended reals that are real -/

/-- A finite sum of reals, taken in the extended reals. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S h ih => rw [Finset.sum_insert h, Finset.sum_insert h, ih, EReal.coe_add]

/-- A hyperbolic tangent is a real number, whatever its argument. -/
theorem tanh_real (x : EReal) : ∃ r : ℝ, Ideal.tanh x = (r : EReal) := by
  induction x with
  | bot => exact ⟨-1, rfl⟩
  | top => exact ⟨1, rfl⟩
  | coe r => exact ⟨Real.tanh r, rfl⟩

/-- An exponent as a real number: between minus one and one, whatever the arrays hold. -/
def tau (xr : Fin 2048 → EReal) (w1 : Fin 1024 → Fin 64 → EReal) (w : Fin 64 → EReal) : ℝ := (logit xr w1 w).toReal

theorem logit_eq (xr : Fin 2048 → EReal) (w1 : Fin 1024 → Fin 64 → EReal) (w : Fin 64 → EReal) :
    logit xr w1 w = ((tau xr w1 w : ℝ) : EReal) := by
  unfold tau logit
  obtain ⟨r, hr⟩ := tanh_real (∑ q : Fin 64, hid xr w1 q * w q)
  rw [hr, EReal.toReal_coe]

/-- The quotient of two reals, the second not zero. -/
theorem div_real {x y : ℝ} (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- The logarithm of a positive real. -/
theorem log_real {x : ℝ} (hx : 0 < x) : Ideal.log (x : EReal) = ((Real.log x : ℝ) : EReal) := if_neg (not_le.mpr hx)

/-! ## The kernel's selections -/

/-- The last of eight entries whose number is `f`, by the kernel's chain of comparisons; zero if there is none. -/
def chain (f : EReal) (e : Fin 8 → EReal) : EReal :=
  if f = ((7 : ℝ) : EReal) then e 7 else if f = ((6 : ℝ) : EReal) then e 6 else if f = ((5 : ℝ) : EReal) then e 5
  else if f = ((4 : ℝ) : EReal) then e 4 else if f = ((3 : ℝ) : EReal) then e 3 else if f = ((2 : ℝ) : EReal) then e 2
  else if f = ((1 : ℝ) : EReal) then e 1 else if f = ((0 : ℝ) : EReal) then e 0 else ((0 : ℝ) : EReal)

/-- The kernel's running sum of the entries before number `n`. -/
def run (e : Fin 8 → EReal) : ℕ → EReal
  | 0 => ((0 : ℝ) : EReal)
  | n + 1 => run e n + (if h : n < 8 then e ⟨n, h⟩ else 0)

/-- At a segment's number the chain gives that segment's entry. -/
theorem chain_num (k : Fin 8) (e : Fin 8 → EReal) : chain (((k.val : ℕ) : ℝ) : EReal) e = e k := by
  unfold chain
  simp only [EReal.coe_eq_coe_iff]
  fin_cases k <;> norm_num <;> rfl

/-- The running sum of exponentials of reals is the real one. -/
theorem run_real (τ : Fin 8 → ℝ) : ∀ n ≤ 8, run (fun s => ((Real.exp (τ s) : ℝ) : EReal)) n = ((below τ n : ℝ) : EReal)
  | 0, _ => by simp [run, below]
  | n + 1, h => by
    have hn : n < 8 := h
    rw [run, run_real τ n (Nat.le_of_lt hn), dif_pos hn, ← EReal.coe_add]
    congr 1
    unfold below
    have : ∀ s : Fin 8, (if s.val < n + 1 then Real.exp (τ s) else 0)
        = (if s.val < n then Real.exp (τ s) else 0) + (if s = ⟨n, hn⟩ then Real.exp (τ s) else 0) := fun s => by
      rcases Nat.lt_trichotomy s.val n with h | h | h
      · rw [if_pos (by omega), if_pos h, if_neg (fun e => by rw [e] at h; exact absurd h (lt_irrefl n)), add_zero]
      · rw [if_pos (by omega), if_neg (by omega), if_pos (Fin.ext h), zero_add]
      · rw [if_neg (by omega), if_neg (by omega), if_neg (fun e => by rw [e] at h; exact absurd h (lt_irrefl n)), add_zero]
    simp only [this, Finset.sum_add_distrib, Finset.sum_ite_eq', Finset.mem_univ, if_true]

theorem below_eight (τ : Fin 8 → ℝ) : below τ 8 = total τ :=
  Finset.sum_congr rfl fun s _ => if_pos s.isLt

/-- What the kernel stores: the running sum before the segment and the part of the segment's own entry, times the
    reciprocal of the sum of all. -/
theorem kernel_phi (τ : Fin 8 → ℝ) (x : ℝ) (k : Fin 8) :
    (run (fun s => ((Real.exp (τ s) : ℝ) : EReal)) k.val + ((x * 8 - k.val : ℝ) : EReal) * ((Real.exp (τ k) : ℝ) : EReal))
        * Ideal.div ((1 : ℝ) : EReal) (run (fun s => ((Real.exp (τ s) : ℝ) : EReal)) 8)
      = ((phi τ x k : ℝ) : EReal) := by
  rw [run_real τ _ (Nat.le_of_lt k.isLt), run_real τ 8 le_rfl, below_eight, div_real (total_pos τ).ne', ← EReal.coe_mul,
    ← EReal.coe_add, ← EReal.coe_mul]
  congr 1
  unfold phi
  rw [mul_one_div]

/-- The kernel's slope: the segment's entry times the reciprocal of the sum of all. -/
theorem kernel_share (τ : Fin 8 → ℝ) (k : Fin 8) :
    ((Real.exp (τ k) : ℝ) : EReal) * Ideal.div ((1 : ℝ) : EReal) (run (fun s => ((Real.exp (τ s) : ℝ) : EReal)) 8)
      = ((share τ k : ℝ) : EReal) := by
  rw [run_real τ 8 le_rfl, below_eight, div_real (total_pos τ).ne', ← EReal.coe_mul]
  congr 1
  exact mul_one_div _ _

/-! ## The reference's softmax and its prefix sums -/

/-- The greatest of eight reals, by the reference's maximum from minus infinity, is a real. -/
theorem max_real (τ : Fin 8 → ℝ) :
    ∃ μ : ℝ, max (⊥ : EReal) ((Finset.univ : Finset (Fin 8)).fold max ⊥ fun s => ((τ s : ℝ) : EReal)) = (μ : EReal) := by
  have h : (Finset.univ : Finset (Fin 8)).fold max (⊥ : EReal) (fun s => ((τ s : ℝ) : EReal))
      = Finset.univ.sup fun s => ((τ s : ℝ) : EReal) := rfl
  obtain ⟨s, _, hs⟩ := Finset.exists_mem_eq_sup (Finset.univ : Finset (Fin 8)) Finset.univ_nonempty fun s => ((τ s : ℝ) : EReal)
  exact ⟨τ s, by rw [h, hs, max_eq_right bot_le]⟩

/-- One softmax entry as the reference computes it: any real subtracted from the exponents, the sum from zero. -/
theorem softmax_real (τ : Fin 8 → ℝ) (μ : ℝ) (k : Fin 8) :
    Ideal.div (Ideal.exp ((τ k : EReal) - (μ : EReal))) (((0 : ℝ) : EReal) + ∑ s : Fin 8, Ideal.exp ((τ s : EReal) - (μ : EReal)))
      = ((share τ k : ℝ) : EReal) := by
  have h : ∀ s, Ideal.exp ((τ s : EReal) - (μ : EReal)) = ((Real.exp (τ s - μ) : ℝ) : EReal) := fun s => by
    rw [← EReal.coe_sub]; rfl
  simp only [h]
  rw [coe_sum, ← EReal.coe_add, zero_add, div_real (Finset.sum_pos (fun _ _ => Real.exp_pos _) Finset.univ_nonempty).ne',
    share_shift]

/-- The sum of the shares before segment `k`. -/
def sharesBelow (τ : Fin 8 → ℝ) (n : ℕ) : ℝ := ∑ s : Fin 8, if s.val < n then share τ s else 0

theorem sharesBelow_eq (τ : Fin 8 → ℝ) (n : ℕ) : sharesBelow τ n = below τ n / total τ := by
  unfold sharesBelow below
  rw [Finset.sum_div]
  refine Finset.sum_congr rfl fun s _ => ?_
  split
  · rfl
  · rw [zero_div]

/-- The reference's value: the shares before the segment, and the distance into it in segments times its share. -/
theorem reference_phi (τ : Fin 8 → ℝ) (x : ℝ) (k : Fin 8) :
    ((sharesBelow τ k.val : ℝ) : EReal)
        + Ideal.div ((x : EReal) - (((k.val : ℕ) : ℝ) : EReal) * ((1 / 8 : ℝ) : EReal)) ((1 / 8 : ℝ) : EReal) * ((share τ k : ℝ) : EReal)
      = ((phi τ x k : ℝ) : EReal) := by
  rw [← EReal.coe_mul, ← EReal.coe_sub, div_real (by norm_num), ← EReal.coe_mul, ← EReal.coe_add, sharesBelow_eq]
  congr 1
  unfold phi share
  field_simp

end Spline

end
-- ==== Proof.Lits.lean ====
/-
  The literals of both programs, as the reals they denote.
-/
module

public import Idealize.ShloMosaic.PureOps.Ideal.Laws
public import Mathlib.Data.EReal.Operations

@[expose] public section

noncomputable section

namespace Lits

open Idealize.ShloMosaic

/-- The bf16 word 0x0000 is zero. -/
theorem b0 : Ideal.ofBits .bf16 0x0000#16 = ((0 : ℝ) : EReal) := by simp [Ideal.ofBits, Ideal.ieee]
/-- The bf16 word 0x3F80 is one. -/
theorem b1 : Ideal.ofBits .bf16 0x3F80#16 = ((1 : ℝ) : EReal) := by
  simp [Ideal.ofBits, Ideal.ieee, -EReal.coe_mul]; norm_num
/-- The bf16 word 0x4000 is two. -/
theorem b2 : Ideal.ofBits .bf16 0x4000#16 = ((2 : ℝ) : EReal) := by
  simp [Ideal.ofBits, Ideal.ieee, -EReal.coe_mul]; norm_num
/-- The bf16 word 0x4040 is three. -/
theorem b3 : Ideal.ofBits .bf16 0x4040#16 = ((3 : ℝ) : EReal) := by
  simp [Ideal.ofBits, Ideal.ieee, -EReal.coe_mul]; norm_num
/-- The bf16 word 0x4080 is four. -/
theorem b4 : Ideal.ofBits .bf16 0x4080#16 = ((4 : ℝ) : EReal) := by
  simp [Ideal.ofBits, Ideal.ieee, -EReal.coe_mul]; norm_num
/-- The bf16 word 0x40A0 is five. -/
theorem b5 : Ideal.ofBits .bf16 0x40A0#16 = ((5 : ℝ) : EReal) := by
  simp [Ideal.ofBits, Ideal.ieee, -EReal.coe_mul]; norm_num
/-- The bf16 word 0x40C0 is six. -/
theorem b6 : Ideal.ofBits .bf16 0x40C0#16 = ((6 : ℝ) : EReal) := by
  simp [Ideal.ofBits, Ideal.ieee, -EReal.coe_mul]; norm_num
/-- The bf16 word 0x40E0 is seven. -/
theorem b7 : Ideal.ofBits .bf16 0x40E0#16 = ((7 : ℝ) : EReal) := by
  simp [Ideal.ofBits, Ideal.ieee, -EReal.coe_mul]; norm_num
/-- The f32 word 0x00000000 is zero. -/
theorem f0 : Ideal.ofBits .f32 0x00000000#32 = ((0 : ℝ) : EReal) := by simp [Ideal.ofBits, Ideal.ieee]
/-- The f32 word 0x3F800000 is one. -/
theorem f1 : Ideal.ofBits .f32 0x3F800000#32 = ((1 : ℝ) : EReal) := by
  simp [Ideal.ofBits, Ideal.ieee, -EReal.coe_mul]; norm_num
/-- The f32 word 0x41000000 is eight. -/
theorem f8 : Ideal.ofBits .f32 0x41000000#32 = ((8 : ℝ) : EReal) := by
  simp [Ideal.ofBits, Ideal.ieee, -EReal.coe_mul]; norm_num
/-- The f32 word 0x3E000000 is an eighth. -/
theorem feighth : Ideal.ofBits .f32 0x3E000000#32 = ((1 / 8 : ℝ) : EReal) := by
  simp [Ideal.ofBits, Ideal.ieee, -EReal.coe_mul]; norm_num
/-- The f32 word 0xFF800000 is minus infinity. -/
theorem fbot : Ideal.ofBits .f32 0xFF800000#32 = (⊥ : EReal) := by simp [Ideal.ofBits, Ideal.ieee]

end Lits

end
-- ==== Proof.Block.lean ====
/-
  What one block of the kernel computes, at one element. Each of the eight exponentials is that of one exponent of
  the row; where the component is of segment `k` — eight times it has floor `k` — the block of the first result is
  the piecewise linear map's value there, and the block of the second is minus the sum of the slopes' logarithms.
-/
module

public import proofs.«01_k».proof.Proof.Gen.KernelIdeal.Frame
public import proofs.«01_k».proof.Proof.Spline
public import proofs.«01_k».proof.Proof.Lits
public import Idealize.ShloMosaic.Lib.ValueIdx
public import Idealize.ShloMosaic.Lib.Pipeline.Value
public import Idealize.ShloMosaic.Lib.Pipeline.ValueKit.Tiles

@[expose] public section

noncomputable section

namespace Cert.KernelIdeal.Block

open Idealize.ShloMosaic Idealize.ShloMosaic.ValueIdx
open Cert.KernelIdeal Cert.KernelIdeal.Gen

/-! ## The eight exponentials -/

/-- The hidden units against one 64-row slice of the second layer, through the hyperbolic tangent and the exponential. -/
def kexp (h : FVec Ideal S1024x64 .bf16) (w : FVec Ideal S64x1024 .bf16) : FVec Ideal S1024x1024 .bf16 :=
  exp (tanh (truncf .bf16 (matmul dot_S1024x64_S64x1024_S1024x1024_1_0_0_1_n_n none h
    (shapeCast S64x1024 w shapeCasts_S64x1024_S64x1024) (constant S1024x1024 .f32 0x00000000#32)) bitsLt_bf16_f32))

/-- The first product's sum runs over the 1024 components. -/
theorem dot1 (l : FVec Ideal S1024x1024 .f32) (r : FVec Ideal S1024x64 .f32) (i : S1024x64.Idx) :
    matmul dot_S1024x1024_S1024x64_S1024x64_1_0_0_1_n_n none l r (constant S1024x64 .f32 0x00000000#32) i
      = ∑ k : Fin 1024, l (ix2 (i 0) k) * r (ix2 k (i 1)) := by
  rw [show matmul dot_S1024x1024_S1024x64_S1024x64_1_0_0_1_n_n none l r (constant S1024x64 .f32 0x00000000#32) i = _ from
    Ideal.matmul_constant_zero_apply _ _ _ _ _]
  rw [← Equiv.sum_comp (contrEquiv1 dot_S1024x1024_S1024x64_S1024x64_1_0_0_1_n_n 1024 rfl rfl).symm]
  refine Finset.sum_congr rfl fun k _ => ?_
  congr 1
  · exact congrArg l (funext fun a => match a with | ⟨0, _⟩ => rfl | ⟨1, _⟩ => rfl)
  · exact congrArg r (funext fun a => match a with | ⟨0, _⟩ => rfl | ⟨1, _⟩ => rfl)

/-- The second product's sum runs over the 64 hidden units. -/
theorem dot2 (l : FVec Ideal S1024x64 .bf16) (r : FVec Ideal S64x1024 .bf16) (i : S1024x1024.Idx) :
    matmul dot_S1024x64_S64x1024_S1024x1024_1_0_0_1_n_n none l r (constant S1024x1024 .f32 0x00000000#32) i
      = ∑ q : Fin 64, l (ix2 (i 0) q) * r (ix2 q (i 1)) := by
  rw [show matmul dot_S1024x64_S64x1024_S1024x1024_1_0_0_1_n_n none l r (constant S1024x1024 .f32 0x00000000#32) i = _ from
    Ideal.matmul_constant_zero_apply _ _ _ _ _]
  rw [← Equiv.sum_comp (contrEquiv1 dot_S1024x64_S64x1024_S1024x1024_1_0_0_1_n_n 64 rfl rfl).symm]
  refine Finset.sum_congr rfl fun k _ => ?_
  congr 1
  · exact congrArg l (funext fun a => match a with | ⟨0, _⟩ => rfl | ⟨1, _⟩ => rfl)
  · exact congrArg r (funext fun a => match a with | ⟨0, _⟩ => rfl | ⟨1, _⟩ => rfl)

/-- A hidden unit of row `p`. -/
theorem hid_apply (x0 : FVec Ideal S1024x2048 .f32) (x1 : FVec Ideal S1024x64 .f32) (p : Fin 1024) (q : Fin 64) :
    k0_pay3 (F := Ideal) x0 x1 (ix2 p q) = Spline.hid (fun b => x0 (ix2 p b)) (fun a b => x1 (ix2 a b)) q := by
  show Ideal.tanh (matmul (F := Ideal) dot_S1024x1024_S1024x64_S1024x64_1_0_0_1_n_n none _ x1 (constant S1024x64 .f32 0x00000000#32) (ix2 p q)) = _
  rw [dot1]
  unfold Spline.hid
  refine congrArg Ideal.tanh (Finset.sum_congr rfl fun k _ => ?_)
  congr 1
  show k0_pay1 (F := Ideal) x0 (ix2 p k) - _ = _
  congr 1
  exact extractStridedSlice_apply _ _ slices_S1024x2048_o0_0_S1024x1024 _ (ix2 p ⟨k.val, by omega⟩)
    (fun a => match a with | ⟨0, _⟩ => (Nat.zero_add _).symm | ⟨1, _⟩ => (Nat.zero_add _).symm)

/-- The `s`-th exponential of component `j` of row `p`: the slice's rows are the 64 from `64 s`. -/
theorem kexp_apply (x0 : FVec Ideal S1024x2048 .f32) (x1 : FVec Ideal S1024x64 .f32) (x2 : FVec Ideal S512x1024 .bf16)
    (s : Fin 8) (inb : ∀ a, ![64 * s.val, 0] a + S64x1024.size a ≤ S512x1024.size a) (p j : Fin 1024) :
    kexp (k0_pay3 x0 x1) (View.ld (Val := Elt Ideal) (e' := .bf16) x2 (Rect.unit (s := S512x1024) ![64 * s.val, 0] S64x1024.size inb)) (ix2 p j)
      = Ideal.exp (Spline.logit (fun b => x0 (ix2 p b)) (fun a b => x1 (ix2 a b))
          (fun q => x2 (ix2 ⟨64 * s.val + q.val, by omega⟩ j))) := by
  show Ideal.exp (Ideal.tanh (matmul (F := Ideal) dot_S1024x64_S64x1024_S1024x1024_1_0_0_1_n_n none _ _ (constant S1024x1024 .f32 0x00000000#32) (ix2 p j))) = _
  rw [dot2, shapeCast_self]
  unfold Spline.logit
  refine congrArg (fun z => Ideal.exp (Ideal.tanh z)) (Finset.sum_congr rfl fun q _ => ?_)
  congr 1
  · exact hid_apply x0 x1 p q
  · exact View.ld_unit_apply_of (Val := Elt Ideal) (e := .bf16) _ _ _ inb _ _
      (fun a => match a with | ⟨0, _⟩ => rfl | ⟨1, _⟩ => (Nat.zero_add _).symm)

/-! ## The selections -/

/-- One selection of the chain: equal to the literal's real or not. -/
theorem sel {φ : FTy} (f : EReal) (c : BitVec φ.bits) (r : ℝ) (hc : Ideal.ofBits φ c = (r : EReal)) (a b : EReal) :
    Scalar.select (FloatOps.cmpf (F := Ideal) (φ := φ) .oeq f (FloatOps.ofBits φ c)) a b = if f = (r : EReal) then a else b := by
  show (if BitVec.ofBool (decide (f = Ideal.ofBits φ c)) = 1 then a else b) = _
  rw [hc]
  by_cases h : f = (r : EReal)
  · rw [if_pos h, decide_eq_true h]; rfl
  · rw [if_neg h, decide_eq_false h]; rfl

variable (e : Fin 8 → FVec Ideal S1024x1024 .bf16) (x : FVec Ideal S1024x1024 .f32) (i : S1024x1024.Idx)

/-- The current segment's entry. -/
theorem pick_apply :
    k0_pay35 (F := Ideal) (e 3) (e 4) (e 5) (e 6) (e 7) (k0_pay15 x) (k0_pay23 x (e 0) (e 1) (e 2)) (Scalar.ofBits .bf16 0x4040#16) i
      = Spline.chain (k0_pay14 (F := Ideal) x i) (fun s => e s i) := by
  unfold Spline.chain
  rw [← sel (φ := .bf16) _ _ _ Lits.b7, ← sel (φ := .bf16) _ _ _ Lits.b6, ← sel (φ := .bf16) _ _ _ Lits.b5,
    ← sel (φ := .bf16) _ _ _ Lits.b4, ← sel (φ := .bf16) _ _ _ Lits.b3, ← sel (φ := .bf16) _ _ _ Lits.b2,
    ← sel (φ := .bf16) _ _ _ Lits.b1, ← sel (φ := .bf16) _ _ _ Lits.b0, ← Lits.b0]
  rfl

/-- The running sum of the entries at an element. -/
theorem sums :
    Spline.run (fun s => e s i) 0 = FloatOps.ofBits (F := Ideal) .bf16 0x0000#16
    ∧ Spline.run (fun s => e s i) 1 = k0_pay19 (F := Ideal) (e 0) i
    ∧ Spline.run (fun s => e s i) 2 = k0_pay21 (F := Ideal) (e 0) (e 1) i
    ∧ Spline.run (fun s => e s i) 3 = k0_pay25 (F := Ideal) (e 0) (e 1) (e 2) i
    ∧ Spline.run (fun s => e s i) 4 = k0_pay27 (F := Ideal) (e 3) (k0_pay25 (e 0) (e 1) (e 2)) i
    ∧ Spline.run (fun s => e s i) 5 = k0_pay29 (F := Ideal) (e 3) (e 4) (k0_pay25 (e 0) (e 1) (e 2)) i
    ∧ Spline.run (fun s => e s i) 6 = k0_pay31 (F := Ideal) (e 3) (e 4) (e 5) (k0_pay25 (e 0) (e 1) (e 2)) i
    ∧ Spline.run (fun s => e s i) 7 = k0_pay33 (F := Ideal) (e 3) (e 4) (e 5) (e 6) (k0_pay25 (e 0) (e 1) (e 2)) i := by
  have h0 : Spline.run (fun s => e s i) 0 = FloatOps.ofBits (F := Ideal) .bf16 0x0000#16 := Lits.b0.symm
  have step : ∀ n (h : n < 8), Spline.run (fun s => e s i) (n + 1) = Spline.run (fun s => e s i) n + e ⟨n, h⟩ i :=
    fun n h => by rw [Spline.run, dif_pos h]
  refine ⟨h0, ?_, ?_, ?_, ?_, ?_, ?_, ?_⟩
  · rw [step 0 (by omega), h0]; rfl
  · rw [step 1 (by omega), step 0 (by omega), h0]; rfl
  · rw [step 2 (by omega), step 1 (by omega), step 0 (by omega), h0]; rfl
  · rw [step 3 (by omega), step 2 (by omega), step 1 (by omega), step 0 (by omega), h0]; rfl
  · rw [step 4 (by omega), step 3 (by omega), step 2 (by omega), step 1 (by omega), step 0 (by omega), h0]; rfl
  · rw [step 5 (by omega), step 4 (by omega), step 3 (by omega), step 2 (by omega), step 1 (by omega), step 0 (by omega), h0]; rfl
  · rw [step 6 (by omega), step 5 (by omega), step 4 (by omega), step 3 (by omega), step 2 (by omega), step 1 (by omega),
      step 0 (by omega), h0]; rfl

/-- The reciprocal of the sum of all. -/
theorem recip_apply :
    k0_pay36 (F := Ideal) (e 3) (e 4) (e 5) (e 6) (e 7) (k0_pay25 (e 0) (e 1) (e 2)) i
      = Ideal.div ((1 : ℝ) : EReal) (Spline.run (fun s => e s i) 8) := by
  rw [Spline.run, dif_pos (by omega), (sums e i).2.2.2.2.2.2.2, ← Lits.b1]
  rfl

/-- What the first result's second half stores. -/
theorem phi_apply :
    k0_pay37 (F := Ideal) (e 3) (e 4) (e 5) (e 6) (e 7) (k0_pay15 x) (k0_pay16 x) (k0_pay23 x (e 0) (e 1) (e 2)) (k0_pay24 x (e 0) (e 1))
        (k0_pay25 (e 0) (e 1) (e 2)) (Scalar.ofBits .bf16 0x4040#16) i
      = (Spline.chain (k0_pay14 (F := Ideal) x i) (fun s => Spline.run (fun s => e s i) s.val)
          + (k0_pay13 (F := Ideal) x i - k0_pay14 (F := Ideal) x i) * Spline.chain (k0_pay14 (F := Ideal) x i) (fun s => e s i))
        * Ideal.div ((1 : ℝ) : EReal) (Spline.run (fun s => e s i) 8) := by
  rw [← recip_apply e i, ← pick_apply e x i]
  have hb : Spline.chain (k0_pay14 (F := Ideal) x i) (fun s => Spline.run (fun s => e s i) s.val)
      = select (k0_pay34 (F := Ideal) (k0_pay15 x)) (k0_pay33 (F := Ideal) (e 3) (e 4) (e 5) (e 6) (k0_pay25 (e 0) (e 1) (e 2)))
        (select (k0_pay32 (F := Ideal) (k0_pay15 x)) (k0_pay31 (F := Ideal) (e 3) (e 4) (e 5) (k0_pay25 (e 0) (e 1) (e 2)))
        (select (k0_pay30 (F := Ideal) (k0_pay15 x)) (k0_pay29 (F := Ideal) (e 3) (e 4) (k0_pay25 (e 0) (e 1) (e 2)))
        (select (k0_pay28 (F := Ideal) (k0_pay15 x)) (k0_pay27 (F := Ideal) (e 3) (k0_pay25 (e 0) (e 1) (e 2)))
        (select (k0_pay26 (F := Ideal) (k0_pay15 x) (Scalar.ofBits .bf16 0x4040#16)) (k0_pay25 (F := Ideal) (e 0) (e 1) (e 2))
        (k0_pay24 x (e 0) (e 1)))))) i := by
    obtain ⟨s0, s1, s2, s3, s4, s5, s6, s7⟩ := sums e i
    unfold Spline.chain
    simp only [Fin.isValue, show (7 : Fin 8).val = 7 from rfl, show (6 : Fin 8).val = 6 from rfl, show (5 : Fin 8).val = 5 from rfl,
      show (4 : Fin 8).val = 4 from rfl, show (3 : Fin 8).val = 3 from rfl, show (2 : Fin 8).val = 2 from rfl,
      show (1 : Fin 8).val = 1 from rfl, show (0 : Fin 8).val = 0 from rfl, s0, s1, s2, s3, s4, s5, s6, s7]
    rw [← sel (φ := .bf16) _ _ _ Lits.b7, ← sel (φ := .bf16) _ _ _ Lits.b6, ← sel (φ := .bf16) _ _ _ Lits.b5,
      ← sel (φ := .bf16) _ _ _ Lits.b4, ← sel (φ := .bf16) _ _ _ Lits.b3, ← sel (φ := .bf16) _ _ _ Lits.b2,
      ← sel (φ := .bf16) _ _ _ Lits.b1, ← sel (φ := .bf16) _ _ _ Lits.b0, ← Lits.b0]
    rfl
  rw [hb]
  rfl

end Cert.KernelIdeal.Block

end
-- ==== Proof.BlockValue.lean ====
/-
  What one block of the kernel leaves in its two results' staging buffers, at one element: the first half of a row
  copied; in the second half, where the component is of segment `k`, the piecewise linear map's value; and, where all
  of a row's components have a segment, minus the sum of the slopes' logarithms.
-/
module

public import proofs.«01_k».proof.Proof.Block

@[expose] public section

noncomputable section

namespace Cert.KernelIdeal.Block

open Idealize.ShloMosaic Idealize.ShloMosaic.ValueIdx
open Cert.KernelIdeal Cert.KernelIdeal.Gen

variable (x0 : FVec Ideal S1024x2048 .f32) (x1 : FVec Ideal S1024x64 .f32) (x2 : FVec Ideal S512x1024 .bf16)

/-- The block's eight arrays of exponentials. -/
def ent : Fin 8 → FVec Ideal S1024x1024 .bf16 := fun s => match s with
  | 0 => k0_pay41 (F := Ideal) x0 x1 x2 | 1 => k0_pay42 (F := Ideal) x0 x1 x2
  | 2 => k0_pay43 (F := Ideal) x0 x1 x2 | 3 => k0_pay44 (F := Ideal) x0 x1 x2
  | 4 => k0_pay45 (F := Ideal) x0 x1 x2 | 5 => k0_pay46 (F := Ideal) x0 x1 x2
  | 6 => k0_pay47 (F := Ideal) x0 x1 x2 | 7 => k0_pay48 (F := Ideal) x0 x1 x2

theorem hz : (![0, 0] : Fin 2 → Nat) = fun _ => 0 := funext fun a => by fin_cases a <;> rfl

theorem hz3 : (![0, 0, 0] : Fin 3 → Nat) = fun _ => 0 := funext fun a => by fin_cases a <;> rfl

/-- The exponents of component `j` of the block's row `p`, as reals. -/
def taus (p j : Fin 1024) : Fin 8 → ℝ := fun s =>
  Spline.tau (fun b => x0 (ix2 p b)) (fun a b => x1 (ix2 a b)) (fun q => x2 (ix2 ⟨64 * s.val + q.val, by omega⟩ j))

theorem load0 : View.ld (Val := Elt Ideal) (e' := .f32) x0 r0_0 = x0 := View.ld_unit_zero hz _ _

theorem load1 : View.ld (Val := Elt Ideal) (e' := .f32) x1 r0_1 = x1 := View.ld_unit_zero hz _ _

/-- Each array holds the exponentials of its exponents. -/
theorem ent_apply (s : Fin 8) (p j : Fin 1024) :
    ent x0 x1 x2 s (ix2 p j) = ((Real.exp (taus x0 x1 x2 p j s) : ℝ) : EReal) := by
  have key : ∀ (s : Fin 8) (inb : ∀ a, ![64 * s.val, 0] a + S64x1024.size a ≤ S512x1024.size a),
      kexp (k0_pay3 (View.ld (Val := Elt Ideal) (e' := .f32) x0 r0_0) (View.ld (Val := Elt Ideal) (e' := .f32) x1 r0_1))
          (View.ld (Val := Elt Ideal) (e' := .bf16) x2 (Rect.unit (s := S512x1024) ![64 * s.val, 0] S64x1024.size inb)) (ix2 p j)
        = ((Real.exp (taus x0 x1 x2 p j s) : ℝ) : EReal) := fun s inb => by
    rw [load0, load1, kexp_apply, Spline.logit_eq]; rfl
  match s with
  | 0 => exact key 0 inb_S512x1024_S64x1024_0_0
  | 1 => exact key 1 inb_S512x1024_S64x1024_64_0
  | 2 => exact key 2 inb_S512x1024_S64x1024_128_0
  | 3 => exact key 3 inb_S512x1024_S64x1024_192_0
  | 4 => exact key 4 inb_S512x1024_S64x1024_256_0
  | 5 => exact key 5 inb_S512x1024_S64x1024_320_0
  | 6 => exact key 6 inb_S512x1024_S64x1024_384_0
  | 7 => exact key 7 inb_S512x1024_S64x1024_448_0

/-- The second half of the block's rows. -/
theorem half_apply (p j : Fin 1024) :
    k0_pay39 (F := Ideal) x0 x1 x2 (ix2 p j) = x0 (ix2 p ⟨1024 + j.val, by omega⟩) := by
  show k0_pay2 (F := Ideal) (View.ld (Val := Elt Ideal) (e' := .f32) x0 r0_0) (ix2 p j) = _
  rw [load0]
  exact extractStridedSlice_apply _ _ slices_S1024x2048_o0_1024_S1024x1024 _ (ix2 p ⟨1024 + j.val, by omega⟩)
    (fun a => match a with | ⟨0, _⟩ => (Nat.zero_add _).symm | ⟨1, _⟩ => rfl)

section
variable {x0 x1 x2} {p j : Fin 1024} {x : ℝ} {k : Fin 8} (hx : x0 (ix2 p ⟨1024 + j.val, by omega⟩) = (x : EReal))
  (hk : ⌊x * 8⌋ = ((k.val : ℕ) : ℤ))
include hx

/-- Eight times the component. -/
theorem scaled : k0_pay13 (F := Ideal) (k0_pay39 x0 x1 x2) (ix2 p j) = ((x * 8 : ℝ) : EReal) := by
  show k0_pay39 (F := Ideal) x0 x1 x2 (ix2 p j) * Ideal.ofBits .f32 0x41000000#32 = _
  rw [half_apply, hx, Lits.f8, EReal.coe_mul]

include hk

/-- Its floor, the segment's number. -/
theorem segment : k0_pay14 (F := Ideal) (k0_pay39 x0 x1 x2) (ix2 p j) = (((k.val : ℕ) : ℝ) : EReal) := by
  show Ideal.liftRound Int.floor (k0_pay13 (F := Ideal) (k0_pay39 x0 x1 x2) (ix2 p j)) = _
  rw [scaled hx, Ideal.liftRound_coe, hk]
  rfl

/-- The value stored for the component. -/
theorem phi_real :
    k0_pay37 (F := Ideal) (k0_pay44 x0 x1 x2) (k0_pay45 x0 x1 x2) (k0_pay46 x0 x1 x2) (k0_pay47 x0 x1 x2) (k0_pay48 x0 x1 x2)
        (k0_pay49 x0 x1 x2) (k0_pay16 (k0_pay39 x0 x1 x2)) (k0_pay50 x0 x1 x2)
        (k0_pay24 (k0_pay39 x0 x1 x2) (k0_pay41 x0 x1 x2) (k0_pay42 x0 x1 x2)) (k0_pay51 x0 x1 x2) (Scalar.ofBits .bf16 0x4040#16) (ix2 p j)
      = ((Spline.phi (taus x0 x1 x2 p j) x k : ℝ) : EReal) := by
  refine (phi_apply (ent x0 x1 x2) (k0_pay39 x0 x1 x2) (ix2 p j)).trans ?_
  rw [segment hx hk, scaled hx, Spline.chain_num, Spline.chain_num]
  simp only [ent_apply]
  rw [← EReal.coe_sub]
  exact Spline.kernel_phi _ _ _

/-- The slope of the component's segment, as the kernel computes it. -/
theorem share_real :
    k0_pay35 (F := Ideal) (k0_pay44 x0 x1 x2) (k0_pay45 x0 x1 x2) (k0_pay46 x0 x1 x2) (k0_pay47 x0 x1 x2) (k0_pay48 x0 x1 x2)
          (k0_pay49 x0 x1 x2) (k0_pay50 x0 x1 x2) (Scalar.ofBits .bf16 0x4040#16) (ix2 p j)
        * k0_pay36 (F := Ideal) (k0_pay44 x0 x1 x2) (k0_pay45 x0 x1 x2) (k0_pay46 x0 x1 x2) (k0_pay47 x0 x1 x2) (k0_pay48 x0 x1 x2)
          (k0_pay51 x0 x1 x2) (ix2 p j)
      = ((Spline.share (taus x0 x1 x2 p j) k : ℝ) : EReal) := by
  refine (congrArg₂ (· * ·) (pick_apply (ent x0 x1 x2) (k0_pay39 x0 x1 x2) (ix2 p j))
    (recip_apply (ent x0 x1 x2) (ix2 p j))).trans ?_
  rw [segment hx hk, Spline.chain_num]
  simp only [ent_apply]
  exact Spline.kernel_share _ _

end

/-- The first result's block, first half: the row's. -/
theorem out_left (p j : Fin 1024) :
    out0_3 (F := Ideal) x0 x1 x2 (ix2 p ⟨j.val, by omega⟩) = x0 (ix2 p ⟨j.val, by omega⟩) := by
  unfold out0_3
  rw [View.canon_cons_of_not_mem]
  · have hj : (ix2 p ⟨j.val, by omega⟩ : S1024x2048.Idx) = r0_10.emb (ix2 p j : S1024x1024.Idx) :=
      funext fun a => Fin.ext (match a with
        | ⟨0, _⟩ => ((Nat.zero_add _).trans (Nat.one_mul _)).symm
        | ⟨1, _⟩ => ((Nat.zero_add _).trans (Nat.one_mul _)).symm)
    rw [hj, View.canon_cons_emb, load0]
    refine (extractStridedSlice_apply _ _ slices_S1024x2048_o0_0_S1024x1024 _ (ix2 p ⟨j.val, by omega⟩)
      (fun a => match a with | ⟨0, _⟩ => (Nat.zero_add _).symm | ⟨1, _⟩ => (Nat.zero_add _).symm)).trans ?_
    rw [hj]
  · show (ix2 p ⟨j.val, by omega⟩ : S1024x2048.Idx) ∉ r0_11.set
    rw [Rect.mem_set_unit]
    intro h
    have h1 : 1024 ≤ j.val := (h 1).1
    have := j.isLt
    omega

/-- The first result's block, second half, where the component is of segment `k`. -/
theorem out_right {p j : Fin 1024} {x : ℝ} {k : Fin 8} (hx : x0 (ix2 p ⟨1024 + j.val, by omega⟩) = (x : EReal))
    (hk : ⌊x * 8⌋ = ((k.val : ℕ) : ℤ)) :
    out0_3 (F := Ideal) x0 x1 x2 (ix2 p ⟨1024 + j.val, by omega⟩) = ((Spline.phi (taus x0 x1 x2 p j) x k : ℝ) : EReal) := by
  unfold out0_3
  have hj : (ix2 p ⟨1024 + j.val, by omega⟩ : S1024x2048.Idx) = r0_11.emb (ix2 p j : S1024x1024.Idx) :=
    funext fun a => Fin.ext (match a with
      | ⟨0, _⟩ => ((Nat.zero_add _).trans (Nat.one_mul _)).symm
      | ⟨1, _⟩ => (congrArg (1024 + ·) (Nat.one_mul _)).symm)
  rw [hj, View.canon_cons_emb]
  exact phi_real hx hk

/-- The second result's block at row `p`, where every component of the row has a segment. -/
theorem out_log {p : Fin 1024} {x : Fin 1024 → ℝ} {k : Fin 1024 → Fin 8}
    (hx : ∀ j : Fin 1024, x0 (ix2 p ⟨1024 + j.val, by omega⟩) = (x j : EReal)) (hk : ∀ j, ⌊x j * 8⌋ = (((k j).val : ℕ) : ℤ)) :
    out0_4 (F := Ideal) x0 x1 x2 (ix3 0 0 p)
      = ((0 - ∑ j, Real.log (Spline.share (taus x0 x1 x2 p j) (k j)) : ℝ) : EReal) := by
  unfold out0_4
  rw [View.canon_unit_zero hz3]
  unfold k0_pay38
  dsimp only
  rw [subf_apply, broadcast_apply]
  rw [shapeCast_apply _ shapeCasts_S1024x1_S1x1x1024 _ (ix2 p (0 : Fin 1) : S1024x1.Idx)
    (by rw [Shape.rowMajor_val_two, Shape.rowMajor_val_three]; show p.val * 1 + 0 = (0 * 1 + 0) * 1024 + p.val; omega)]
  rw [shapeCast_apply _ shapeCasts_S1024_S1024x1 _ (ix1 p : S1024.Idx)
    (by rw [Shape.rowMajor_val_two, Shape.rowMajor_val_one]; show p.val = p.val * 1 + 0; omega)]
  rw [EReal.coe_sub, ← Spline.coe_sum]
  refine congrArg₂ (· - ·) Lits.f0
    ((Ideal.multiReduction_add_single _ _ reduces_S1024x1024_S1024 (.inl rfl) rfl (ix1 p)).trans (Finset.sum_congr rfl fun j _ => ?_))
  have hj : (reduces_S1024x1024_S1024.lift (ix1 p : S1024.Idx) j : S1024x1024.Idx) = ix2 p j :=
    funext fun a => Fin.ext (match a with | ⟨0, _⟩ => rfl | ⟨1, _⟩ => rfl)
  rw [hj]
  show Ideal.log (k0_pay35 (F := Ideal) (k0_pay44 x0 x1 x2) (k0_pay45 x0 x1 x2) (k0_pay46 x0 x1 x2) (k0_pay47 x0 x1 x2) (k0_pay48 x0 x1 x2)
          (k0_pay49 x0 x1 x2) (k0_pay50 x0 x1 x2) (Scalar.ofBits .bf16 0x4040#16) (ix2 p j)
        * k0_pay36 (F := Ideal) (k0_pay44 x0 x1 x2) (k0_pay45 x0 x1 x2) (k0_pay46 x0 x1 x2) (k0_pay47 x0 x1 x2) (k0_pay48 x0 x1 x2)
          (k0_pay51 x0 x1 x2) (ix2 p j)) = _
  rw [share_real (hx j) (hk j), Spline.log_real (Spline.share_pos _ _)]

end Cert.KernelIdeal.Block

end
-- ==== Proof.Arrays.lean ====
/-
  What the kernel's arrays hold. A point of the grid reads 1,024 rows of `x` and the whole of the two layers; the
  second layer reaches it as the host rearranged it, the eight exponents' columns one under another. The blocks of
  each result tile its array, so at every index the array ends holding its point's block there; and the host adds
  the second one, a column, to the given log density.
-/
module

public import proofs.«01_k».proof.Proof.BlockValue
public import Idealize.ShloMosaic.Lib.Claim
public import Idealize.ShloMosaic.Lib.StableHlo.Run

@[expose] public section

noncomputable section

namespace Cert.KernelIdeal.Arrays

open Idealize.ShloMosaic Idealize.ShloMosaic.TcCoe Idealize.ShloMosaic.ValueIdx Idealize.SL.Sem
open Idealize.ShloMosaic.Pipeline (Dat Window.rect_emb_val)
open Cert.KernelIdeal Cert.KernelIdeal.Gen

variable (m : (ℓ : Loc nD τ sig) → Buf (Elt Ideal) ℓ) (c : Dev nD)

/-- The argument arrays, as extended reals. -/
abbrev ax : FVec Ideal S8192x2048 .f32 := m ((c : Thread nD τ).loc main_arg0)
abbrev ald : FVec Ideal S8192x1 .f32 := m ((c : Thread nD τ).loc main_arg1)
abbrev aw1 : FVec Ideal S1024x64 .f32 := m ((c : Thread nD τ).loc main_arg2)
abbrev aw2 : FVec Ideal S64x8192 .f32 := m ((c : Thread nD τ).loc main_arg4)

/-! ## What a point reads -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 ∧ win0_4.index t 2 = 0 := by decide +kernel

theorem lt_N (t : Fin cfg0.N) : t.val < 8 := by have := t.isLt; have h : cfg0.N = 8 := N_0; omega

/-- Row `p` of point `t`'s block. -/
def row (t : Fin cfg0.N) (p : Fin 1024) : Fin 8192 := ⟨1024 * t.val + p.val, by have := lt_N t; omega⟩

theorem blk_x (t : Fin cfg0.N) (p : Fin 1024) (b : Fin 2048) :
    (iblk m c 0 t : FVec Ideal S1024x2048 .f32) (ix2 p b) = ax m c (ix2 (row t p) b) := by
  show V m c main_arg0 ((win0_0.rect t).emb (ix2 p b)) = _
  rw [V_main_arg0]
  refine congrArg (ax m c) (funext fun a => Fin.ext ?_)
  match a with
  | ⟨0, _⟩ => rw [Window.rect_emb_val win0_0, show (⟨0, _⟩ : Fin win0_0.shape.rank) = 0 from rfl, (idx0 t).1]
              show t.val * 1024 + p.val = 1024 * t.val + p.val; omega
  | ⟨1, _⟩ => rw [Window.rect_emb_val win0_0, show (⟨1, _⟩ : Fin win0_0.shape.rank) = 1 from rfl, (idx0 t).2]
              show 0 * 2048 + b.val = b.val; omega

theorem blk_w1 (t : Fin cfg0.N) (a : Fin 1024) (q : Fin 64) :
    (iblk m c 1 t : FVec Ideal S1024x64 .f32) (ix2 a q) = aw1 m c (ix2 a q) := by
  show V m c main_arg2 ((win0_1.rect t).emb (ix2 a q)) = _
  rw [V_main_arg2]
  refine congrArg (aw1 m c) (funext fun e => Fin.ext ?_)
  match e with
  | ⟨0, _⟩ => rw [Window.rect_emb_val win0_1, show (⟨0, _⟩ : Fin win0_1.shape.rank) = 0 from rfl, (idx1 t).1]
              show 0 * 1024 + a.val = a.val; omega
  | ⟨1, _⟩ => rw [Window.rect_emb_val win0_1, show (⟨1, _⟩ : Fin win0_1.shape.rank) = 1 from rfl, (idx1 t).2]
              show 0 * 64 + q.val = q.val; omega

/-- The second layer as the host rearranges it for the kernel: its 64 rows of exponent `s` are the columns `8 j + s`. -/
theorem entry_w2 (s : Fin 8) (q : Fin 64) (j : Fin 1024) :
    (V m c main_v3 : FVec Ideal S512x1024 .bf16) (ix2 ⟨64 * s.val + q.val, by omega⟩ j)
      = aw2 m c (ix2 q ⟨8 * j.val + s.val, by omega⟩) := by
  entry_read
  show shapeCast S512x1024 (transpose S8x64x1024 [2, 0, 1] (shapeCast S64x1024x8 (aw2 m c) shapeCasts_S64x8192_S64x1024x8)
    transposes_S64x1024x8_S8x64x1024_2_0_1) shapeCasts_S8x64x1024_S512x1024 (ix2 ⟨64 * s.val + q.val, by omega⟩ j) = _
  rw [shapeCast_apply _ shapeCasts_S8x64x1024_S512x1024 _ (ix3 s q j : S8x64x1024.Idx)
    (by rw [Shape.rowMajor_val_two, Shape.rowMajor_val_three]
        show (s.val * 64 + q.val) * 1024 + j.val = (64 * s.val + q.val) * 1024 + j.val; omega)]
  rw [transpose_apply _ _ transposes_S64x1024x8_S8x64x1024_2_0_1 _ (ix3 q j s : S64x1024x8.Idx)
    (fun a => match a with | ⟨0, _⟩ => rfl | ⟨1, _⟩ => rfl | ⟨2, _⟩ => rfl)]
  exact shapeCast_apply _ shapeCasts_S64x8192_S64x1024x8 _ _
    (by rw [Shape.rowMajor_val_two, Shape.rowMajor_val_three]
        show q.val * 8192 + (8 * j.val + s.val) = (q.val * 1024 + j.val) * 8 + s.val; omega)

theorem blk_w2 (t : Fin cfg0.N) (s : Fin 8) (q : Fin 64) (j : Fin 1024) :
    (iblk m c 2 t : FVec Ideal S512x1024 .bf16) (ix2 ⟨64 * s.val + q.val, by omega⟩ j)
      = aw2 m c (ix2 q ⟨8 * j.val + s.val, by omega⟩) := by
  rw [← entry_w2]
  show V m c main_v3 ((win0_2.rect t).emb (ix2 ⟨64 * s.val + q.val, by omega⟩ j)) = _
  refine congrArg (V m c main_v3) (funext fun e => Fin.ext ?_)
  match e with
  | ⟨0, _⟩ => rw [Window.rect_emb_val win0_2, show (⟨0, _⟩ : Fin win0_2.shape.rank) = 0 from rfl, (idx2 t).1]
              show 0 * 512 + (64 * s.val + q.val) = 64 * s.val + q.val; omega
  | ⟨1, _⟩ => rw [Window.rect_emb_val win0_2, show (⟨1, _⟩ : Fin win0_2.shape.rank) = 1 from rfl, (idx2 t).2]
              show 0 * 1024 + j.val = j.val; omega

/-- The eight exponents of component `j` of row `i`, from the arguments. -/
def taus (i : Fin 8192) (j : Fin 1024) : Fin 8 → ℝ := fun s =>
  Spline.tau (fun b => ax m c (ix2 i b)) (fun a b => aw1 m c (ix2 a b)) (fun q => aw2 m c (ix2 q ⟨8 * j.val + s.val, by omega⟩))

/-- A block's exponents are those of the arguments' row. -/
theorem blk_taus (t : Fin cfg0.N) (p j : Fin 1024) :
    Block.taus (iblk m c 0 t) (iblk m c 1 t) (iblk m c 2 t) p j = taus m c (row t p) j := by
  unfold Block.taus taus
  simp only [blk_x, blk_w1, blk_w2]

/-! ## The results' arrays -/

/-- The point whose block holds row `i`. -/
def pt (i : Fin 8192) : Fin cfg0.N := ⟨i.val / 1024, by have h : cfg0.N = 8 := N_0; omega⟩
/-- The row's place in it. -/
def off (i : Fin 8192) : Fin 1024 := ⟨i.val % 1024, Nat.mod_lt _ (by omega)⟩

theorem row_pt (i : Fin 8192) : row (pt i) (off i) = i := Fin.ext (by show 1024 * (i.val / 1024) + i.val % 1024 = i.val; omega)
theorem pt_row (t : Fin cfg0.N) (p : Fin 1024) : pt (row t p) = t := Fin.ext (by show (1024 * t.val + p.val) / 1024 = t.val; omega)
theorem off_row (t : Fin cfg0.N) (p : Fin 1024) : off (row t p) = p := Fin.ext (by show (1024 * t.val + p.val) % 1024 = p.val; omega)

/-- The first result's array: at each row its point's block. -/
def phiArr : Buf (Elt Ideal) ((c : Thread nD τ).loc main_v4_0) := fun i : S8192x2048.Idx =>
  out0_3 (F := Ideal) (iblk m c 0 (pt (i 0))) (iblk m c 1 (pt (i 0))) (iblk m c 2 (pt (i 0))) (ix2 (off (i 0)) (i 1))

theorem emb3 (t : Fin cfg0.N) (y : S1024x2048.Idx) :
    (win0_3.rect t).emb y = (ix2 (row t (y 0)) (y 1) : S8192x2048.Idx) := by
  refine funext fun a => Fin.ext ?_
  match a with
  | ⟨0, _⟩ => rw [Window.rect_emb_val win0_3, show (⟨0, _⟩ : Fin win0_3.shape.rank) = 0 from rfl, (idx3 t).1]
              show t.val * 1024 + (y 0).val = 1024 * t.val + (y 0).val; omega
  | ⟨1, _⟩ => rw [Window.rect_emb_val win0_3, show (⟨1, _⟩ : Fin win0_3.shape.rank) = 1 from rfl, (idx3 t).2]
              show 0 * 2048 + (y 1).val = (y 1).val; omega

theorem phiArr_at (t : Fin cfg0.N) (p : Fin 1024) (b : Fin 2048) :
    (phiArr m c : FVec Ideal S8192x2048 .f32) (ix2 (row t p) b)
      = out0_3 (F := Ideal) (iblk m c 0 t) (iblk m c 1 t) (iblk m c 2 t) (ix2 p b) := by
  show out0_3 (F := Ideal) (iblk m c 0 (pt (row t p))) (iblk m c 1 (pt (row t p))) (iblk m c 2 (pt (row t p)))
    (ix2 (off (row t p)) b) = _
  rw [pt_row, off_row]

theorem flushed3 (t : Fin cfg0.N) : (dats m 0 c).flushed 3 t = (win0_3.blk t).view.read (Elt Ideal) (phiArr m c) := by
  show (cfg0.win 3).cut (grid0.coords t) ((dats m 0 c).after 3 t) = _
  rw [after0_3]
  generalize ho : out0_3 (F := Ideal) (iblk m c 0 t) (iblk m c 1 t) (iblk m c 2 t) = o
  have h := phiArr_at m c t
  rw [ho] at h
  generalize phiArr m c = G at h ⊢
  funext y
  show o y = G ((win0_3.rect t).emb y)
  rw [emb3]
  exact (congrArg o (eq_ix2 y)).trans (h _ _).symm

theorem cover3 (i : S8192x2048.Idx) : ∃ t : Fin cfg0.N, (cfg0.win 3).flush t = true ∧ i ∈ ((cfg0.win 3).blk t).view.set := by
  refine ⟨pt (i 0), flush0_3 _, ?_⟩
  show i ∈ ((View.whole main_v4_0).slice (win0_3.rect (pt (i 0)))).set
  rw [View.set_slice_whole, Rect.mem_set_unit]
  have h1 : (i 1 : Nat) < 2048 := (i 1).isLt
  intro a
  match a with
  | ⟨0, _⟩ => show win0_3.index (pt (i 0)) 0 * 1024 ≤ (i 0).val ∧ (i 0).val < win0_3.index (pt (i 0)) 0 * 1024 + 1024
              rw [(idx3 _).1]; show (i 0).val / 1024 * 1024 ≤ (i 0).val ∧ (i 0).val < (i 0).val / 1024 * 1024 + 1024; omega
  | ⟨1, _⟩ => show win0_3.index (pt (i 0)) 1 * 2048 ≤ (i 1).val ∧ (i 1).val < win0_3.index (pt (i 0)) 1 * 2048 + 2048
              rw [(idx3 _).2]; omega

theorem final3 : (dats m 0 c).arrAt 3 cfg0.N = phiArr m c :=
  (dats m 0 c).arrAt_eq_of_cover 3 (phiArr m c) (fun t _ => flushed3 m c t) (cover3)

/-- The second result's array before the host's addition: a row of numbers per point. -/
def logArr : Buf (Elt Ideal) ((c : Thread nD τ).loc main_v4_1) := fun i : S8x1x1024.Idx =>
  out0_4 (F := Ideal) (iblk m c 0 ⟨(i 0).val, (i 0).isLt⟩) (iblk m c 1 ⟨(i 0).val, (i 0).isLt⟩) (iblk m c 2 ⟨(i 0).val, (i 0).isLt⟩)
    (ix3 0 0 (i 2))

theorem emb4 (t : Fin cfg0.N) (y : S1x1x1024.Idx) :
    (win0_4.rect t).emb y = (ix3 ⟨t.val, lt_N t⟩ 0 (y 2) : S8x1x1024.Idx) := by
  have h0 : (y 0).val < 1 := (y 0).isLt
  have h1 : (y 1).val < 1 := (y 1).isLt
  refine funext fun a => Fin.ext ?_
  match a with
  | ⟨0, _⟩ => rw [Window.rect_emb_val win0_4, show (⟨0, _⟩ : Fin win0_4.shape.rank) = 0 from rfl, (idx4 t).1]
              show t.val * 1 + (y 0).val = t.val; omega
  | ⟨1, _⟩ => rw [Window.rect_emb_val win0_4, show (⟨1, _⟩ : Fin win0_4.shape.rank) = 1 from rfl, (idx4 t).2.1]
              show 0 * 1 + (y 1).val = 0; omega
  | ⟨2, _⟩ => rw [Window.rect_emb_val win0_4, show (⟨2, _⟩ : Fin win0_4.shape.rank) = 2 from rfl, (idx4 t).2.2]
              show 0 * 1024 + (y 2).val = (y 2).val; omega

theorem logArr_at (t : Fin cfg0.N) (y : S1x1x1024.Idx) :
    (logArr m c : FVec Ideal S8x1x1024 .f32) (ix3 ⟨t.val, lt_N t⟩ 0 (y 2))
      = out0_4 (F := Ideal) (iblk m c 0 t) (iblk m c 1 t) (iblk m c 2 t) y := by
  have h0 : (y 0).val < 1 := (y 0).isLt
  have h1 : (y 1).val < 1 := (y 1).isLt
  show out0_4 (F := Ideal) (iblk m c 0 t) (iblk m c 1 t) (iblk m c 2 t) (ix3 0 0 (y 2)) = _
  refine (congrArg (out0_4 (F := Ideal) (iblk m c 0 t) (iblk m c 1 t) (iblk m c 2 t)) ((eq_ix3 y).trans ?_)).symm
  exact funext fun a => Fin.ext (match a with | ⟨0, _⟩ => Nat.lt_one_iff.mp h0 | ⟨1, _⟩ => Nat.lt_one_iff.mp h1 | ⟨2, _⟩ => rfl)

theorem flushed4 (t : Fin cfg0.N) : (dats m 0 c).flushed 4 t = (win0_4.blk t).view.read (Elt Ideal) (logArr m c) := by
  show (cfg0.win 4).cut (grid0.coords t) ((dats m 0 c).after 4 t) = _
  rw [after0_4]
  generalize ho : out0_4 (F := Ideal) (iblk m c 0 t) (iblk m c 1 t) (iblk m c 2 t) = o
  have h := logArr_at m c t
  rw [ho] at h
  generalize logArr m c = G at h ⊢
  funext y
  show o y = G ((win0_4.rect t).emb y)
  rw [emb4]
  exact (h y).symm

/-- The point that is the first coordinate. -/
def pt4 (k : Fin 8) : Fin cfg0.N := ⟨k.val, by have h : cfg0.N = 8 := N_0; omega⟩

theorem cover4 (i : S8x1x1024.Idx) : ∃ t : Fin cfg0.N, (cfg0.win 4).flush t = true ∧ i ∈ ((cfg0.win 4).blk t).view.set := by
  have h1 : (i 1 : Nat) < 1 := (i 1).isLt
  have h2 : (i 2 : Nat) < 1024 := (i 2).isLt
  refine ⟨pt4 (i 0), flush0_4 _, ?_⟩
  show i ∈ ((View.whole main_v4_1).slice (win0_4.rect (pt4 (i 0)))).set
  rw [View.set_slice_whole, Rect.mem_set_unit]
  intro a
  match a with
  | ⟨0, _⟩ => show win0_4.index (pt4 (i 0)) 0 * 1 ≤ (i 0).val ∧ (i 0).val < win0_4.index (pt4 (i 0)) 0 * 1 + 1
              rw [(idx4 _).1]; show (i 0).val * 1 ≤ (i 0).val ∧ (i 0).val < (i 0).val * 1 + 1; omega
  | ⟨1, _⟩ => show win0_4.index (pt4 (i 0)) 1 * 1 ≤ (i 1).val ∧ (i 1).val < win0_4.index (pt4 (i 0)) 1 * 1 + 1
              rw [(idx4 _).2.1]; omega
  | ⟨2, _⟩ => show win0_4.index (pt4 (i 0)) 2 * 1024 ≤ (i 2).val ∧ (i 2).val < win0_4.index (pt4 (i 0)) 2 * 1024 + 1024
              rw [(idx4 _).2.2]; omega

theorem final4 : (dats m 0 c).arrAt 4 cfg0.N = logArr m c :=
  (dats m 0 c).arrAt_eq_of_cover 4 (logArr m c) (fun t _ => flushed4 m c t) (cover4)

/-- The second result: the log density and the row's number. -/
def logRes : Buf (Elt Ideal) ((c : Thread nD τ).loc main_v6) := fun i : S8192x1.Idx =>
  ald m c i + out0_4 (F := Ideal) (iblk m c 0 (pt (i 0))) (iblk m c 1 (pt (i 0))) (iblk m c 2 (pt (i 0))) (ix3 0 0 (off (i 0)))

/-- The host's lines after the kernel, read at the second result. -/
theorem tail6 : Pipeline.afterTail₀ cfgs (dats m) 0 (V0 m) [hostOps1] c main_v6 = logRes m c := by
  unfold Pipeline.afterTail₀
  rw [show List.flatten [hostOps1 (F := Ideal)] = hostOps1 from List.append_nil _]
  have e1 := (Pipeline.withArrays_arr (cfgs 0).spec winFacts0.arr_inj c (V0 m c) (fun w => (dats m 0 c).arrAt w (cfgs 0).N) 4).trans (final4 m c)
  have e2 := (Pipeline.withArrays_of_ne (cfgs 0).spec c (V0 m c) (fun w => (dats m 0 c).arrAt w (cfgs 0).N) main_arg1
    (by exact (by decide : ∀ w, Pipeline.arrRef spec0 w ≠ main_arg1))).trans (V_main_arg1 m c)
  after_results
  rw [e2, show Pipeline.withArrays (cfgs 0).spec c (V0 m c) (fun w => (dats m 0 c).arrAt w (cfgs 0).N) (Proc.tc.devRef main_v4_1)
    = logArr m c from e1]
  funext i
  have h1 : (i 1 : Nat) < 1 := (i 1).isLt
  show ald m c i + shapeCast S8192x1 (logArr m c : FVec Ideal S8x1x1024 .f32) shapeCasts_S8x1x1024_S8192x1 i = _
  rw [shapeCast_apply _ shapeCasts_S8x1x1024_S8192x1 i (ix3 ⟨(pt (i 0)).val, lt_N _⟩ 0 (off (i 0)) : S8x1x1024.Idx)
    (by rw [Shape.rowMajor_val_two, Shape.rowMajor_val_three]
        show ((i 0).val / 1024 * 1 + 0) * 1024 + (i 0).val % 1024 = (i 0).val * 1 + (i 1).val; omega)]
  rfl

/-! ## The run -/

variable (ρ : Dev nD → PrngReg)

/-- The run of the kernel: its results as above, its arguments unchanged. -/
theorem run : θ_run defs (onTc (τ := τ) (main (F := Ideal))) ⟨m, fun _ => 0, ρ⟩ fun r => ∀ c : Dev nD,
      r.2.mem ((c : Thread nD τ).loc main_v4_0) = phiArr m c
      ∧ r.2.mem ((c : Thread nD τ).loc main_v6) = logRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 3).trans (final3 m c),
      (((h.1 c).2 main_v6 (Pipeline.mem_restRefs_of main_v6 (by decide) (by decide))).trans (tail6 m c)), h.2 c⟩)
    (θ_run_and (run_main m ρ) (unchanged m ρ))

/-- The first result's left half is the argument's. -/
theorem phiArr_left (i : Fin 8192) (j : Fin 1024) :
    (phiArr m c : FVec Ideal S8192x2048 .f32) (ix2 i ⟨j.val, by omega⟩) = ax m c (ix2 i ⟨j.val, by omega⟩) := by
  have h := phiArr_at m c (pt i) (off i) ⟨j.val, by omega⟩
  rw [row_pt] at h
  rw [h, Block.out_left, blk_x, row_pt]

/-- The first result's right half: where the argument is a real number of segment `k`, the spline of the row's exponents. -/
theorem phiArr_right (i : Fin 8192) (j : Fin 1024) (x : ℝ) (k : Fin 8)
    (hx : ax m c (ix2 i ⟨1024 + j.val, by omega⟩) = (x : EReal)) (hk : ⌊x * 8⌋ = ((k.val : ℕ) : ℤ)) :
    (phiArr m c : FVec Ideal S8192x2048 .f32) (ix2 i ⟨1024 + j.val, by omega⟩) = ((Spline.phi (taus m c i j) x k : ℝ) : EReal) := by
  have h := phiArr_at m c (pt i) (off i) ⟨1024 + j.val, by omega⟩
  rw [row_pt] at h
  rw [h, Block.out_right (x := x) (k := k) (hx := by rw [blk_x, row_pt]; exact hx) (hk := hk), blk_taus, row_pt]

/-- The second result: where the row's arguments are real numbers of segments `k`, the log density less the sum of the
    logarithms of the segments' shares. -/
theorem logRes_row (i : Fin 8192) (x : Fin 1024 → ℝ) (k : Fin 1024 → Fin 8)
    (hx : ∀ j : Fin 1024, ax m c (ix2 i ⟨1024 + j.val, by omega⟩) = (x j : EReal))
    (hk : ∀ j, ⌊x j * 8⌋ = (((k j).val : ℕ) : ℤ)) :
    (logRes m c : FVec Ideal S8192x1 .f32) (ix2 i 0)
      = ald m c (ix2 i 0) + ((0 - ∑ j : Fin 1024, Real.log (Spline.share (taus m c i j) (k j)) : ℝ) : EReal) := by
  show ald m c (ix2 i 0) + out0_4 (F := Ideal) (iblk m c 0 (pt i)) (iblk m c 1 (pt i)) (iblk m c 2 (pt i)) (ix3 0 0 (off i)) = _
  rw [Block.out_log (x := x) (k := k) (hx := fun j => by rw [blk_x, row_pt]; exact hx j) (hk := hk)]
  simp only [blk_taus, row_pt]

end Cert.KernelIdeal.Arrays

end
-- ==== Proof.RefShares.lean ====
/-
  What the reference computes before it looks anything up: the eight exponents of one component, their softmax, which
  is each exponential's share of the sum, and the shares' prefix sums with a zero put before them.
-/
module

public import proofs.«01_k».proof.Proof.Spline
public import proofs.«01_k».proof.Proof.Lits
public import proofs.«01_k».proof.Proof.Gen.ReferenceIdeal.Read

@[expose] public section

noncomputable section

namespace Cert.ReferenceIdeal.Shares

open Idealize.ShloMosaic Idealize.ShloMosaic.ValueIdx
open Cert.ReferenceIdeal Cert.ReferenceIdeal.Gen Cert.ReferenceIdeal.Read

variable (x0 : FVec Ideal S8192x2048 .f32) (x2 : FVec Ideal S1024x64 .f32) (x3 : FVec Ideal S64 .f32)
  (x4 : FVec Ideal S64x8192 .f32) (x5 : FVec Ideal S8192 .f32)

/-- The eight exponents of component `j` of row `i`. -/
def taus (i : Fin 8192) (j : Fin 1024) : Fin 8 → ℝ := fun s =>
  Spline.tau (fun b => x0 (ix2 i b)) (fun a b => x2 (ix2 a b)) (fun q => x4 (ix2 q ⟨8 * j.val + s.val, by omega⟩))

variable (hb1 : ∀ q, x3 q = (0 : EReal)) (hb2 : ∀ q, x5 q = (0 : EReal))

include hb1 in
/-- The hidden units, the first bias being zero. -/
theorem hid_apply (i : Fin 8192) (q : Fin 64) :
    val_main_v8 (F := Ideal) x0 x2 x3 (ix2 i q) = Spline.hid (fun b => x0 (ix2 i b)) (fun a b => x2 (ix2 a b)) q := by
  rw [val_main_v8_apply, val_main_v7_apply, val_main_v4_apply, val_main_v6_apply, val_main_v5_apply, hb1]
  show Ideal.tanh ((∑ k : Fin 1024, _) + (0 : EReal)) = _
  rw [add_zero]
  unfold Spline.hid
  congr 1
  refine Finset.sum_congr rfl fun k _ => ?_
  rw [val_main_v3_apply, val_main_v0_apply, val_main_v2_apply, val_main_cst_apply]
  show (x0 _ - _) * x2 _ = _
  congr 3
  · exact funext fun a => Fin.ext (match a with | ⟨0, _⟩ => rfl | ⟨1, _⟩ => by show _ = k.val; first | rfl | simp)
  · exact funext fun a => Fin.ext (match a with | ⟨0, _⟩ => rfl | ⟨1, _⟩ => rfl)

include hb1 hb2 in
/-- An exponent, both biases being zero. -/
theorem logit_apply (i : Fin 8192) (j : Fin 1024) (s : Fin 8) :
    val_main_v14 (F := Ideal) x0 x2 x3 x4 x5 (ix3 i j s) = ((taus x0 x2 x4 i j s : ℝ) : EReal) := by
  have e : idx_main_v14 (ix3 i j s) = (ix2 i ⟨8 * j.val + s.val, by omega⟩ : S8192x8192.Idx) := by
    refine funext fun a => Fin.ext ?_
    match a with
    | ⟨0, _⟩ => show ((i.val * 1024 + j.val) * 8 + s.val) / 8192 = i.val; omega
    | ⟨1, _⟩ => show ((i.val * 1024 + j.val) * 8 + s.val) % 8192 = 8 * j.val + s.val; omega
  rw [val_main_v14_apply, e, val_main_v13_apply, val_main_v12_apply, val_main_v9_apply, val_main_v11_apply,
    val_main_v10_apply, hb2]
  show Ideal.tanh ((∑ k : Fin 64, _) + (0 : EReal)) = _
  rw [add_zero]
  refine Eq.trans ?_ (Spline.logit_eq _ _ _)
  unfold Spline.logit
  congr 1
  refine Finset.sum_congr rfl fun q _ => ?_
  rw [show lidx_main_v9 (ix2 i ⟨8 * j.val + s.val, by omega⟩) q = (ix2 i q : S8192x64.Idx) from
      funext fun a => Fin.ext (match a with | ⟨0, _⟩ => rfl | ⟨1, _⟩ => rfl),
    show ridx_main_v9 (ix2 i ⟨8 * j.val + s.val, by omega⟩) q = (ix2 q ⟨8 * j.val + s.val, by omega⟩ : S64x8192.Idx) from
      funext fun a => Fin.ext (match a with | ⟨0, _⟩ => rfl | ⟨1, _⟩ => rfl), hid_apply x0 x2 x3 hb1]

include hb1 hb2 in
/-- The greatest exponent is a real number. -/
theorem max_apply (i : Fin 8192) (j : Fin 1024) :
    ∃ μ : ℝ, val_main_v17 (F := Ideal) x0 x2 x3 x4 x5 (ix2 i j) = (μ : EReal) := by
  obtain ⟨μ, hμ⟩ := Spline.max_real (taus x0 x2 x4 i j)
  refine ⟨μ, Eq.trans ?_ hμ⟩
  rw [val_main_v17_apply, val_main_v16_apply, val_main_cst_1_apply]
  unfold val_main_v15
  rw [Host.reduce_eq_fold_single _ _ _ _ (by decide : S8192x1024x8.Reduces [2] S8192x1024)]
  show max (Ideal.ofBits .f32 0xFF800000#32) (Finset.fold max (Ideal.ofBits .f32 0xFF800000#32) _ _) = _
  rw [Lits.fbot]
  congr 2
  funext s
  refine Eq.trans ?_ (logit_apply x0 x2 x3 x4 x5 hb1 hb2 i j s)
  show val_main_v14 (F := Ideal) x0 x2 x3 x4 x5 _ = _
  congr 1
  exact funext fun a => Fin.ext (match a with | ⟨0, _⟩ => rfl | ⟨1, _⟩ => rfl | ⟨2, _⟩ => rfl)

include hb1 hb2 in
/-- The softmax's entries are the shares. -/
theorem softmax_apply (i : Fin 8192) (j : Fin 1024) (k : Fin 8) :
    val_main_v25 (F := Ideal) x0 x2 x3 x4 x5 (ix3 i j k) = ((Spline.share (taus x0 x2 x4 i j) k : ℝ) : EReal) := by
  obtain ⟨μ, hμ⟩ := max_apply x0 x2 x3 x4 x5 hb1 hb2 i j
  have e : ∀ s : Fin 8, val_main_v21 (F := Ideal) x0 x2 x3 x4 x5 (ix3 i j s)
      = Ideal.exp (((taus x0 x2 x4 i j s : ℝ) : EReal) - (μ : EReal)) := fun s => by
    rw [val_main_v21_apply, val_main_v20_apply, logit_apply x0 x2 x3 x4 x5 hb1 hb2, val_main_v19_apply, val_main_v18_apply,
      show idx_main_v18 (idx_main_v19 (ix3 i j s)) = (ix2 i j : S8192x1024.Idx) from
        funext fun a => Fin.ext (match a with | ⟨0, _⟩ => rfl | ⟨1, _⟩ => rfl), hμ]
    rfl
  rw [val_main_v25_apply, e, val_main_v24_apply, val_main_v23_apply,
    show idx_main_v23 (idx_main_v24 (ix3 i j k)) = (ix2 i j : S8192x1024.Idx) from
      funext fun a => Fin.ext (match a with | ⟨0, _⟩ => rfl | ⟨1, _⟩ => rfl), val_main_v22_apply, val_main_cst_2_apply]
  rw [show (FloatOps.ofBits .f32 0x00000000#32 : Ideal .f32) = ((0 : ℝ) : EReal) from Lits.f0]
  refine Eq.trans (congrArg (fun z : EReal => Ideal.div _ (((0 : ℝ) : EReal) + z)) ?_) (Spline.softmax_real (taus x0 x2 x4 i j) μ k)
  refine Finset.sum_congr rfl fun s _ => ?_
  rw [show idx_main_v22 (ix2 i j) s = (ix3 i j s : S8192x1024x8.Idx) from
      funext fun a => Fin.ext (match a with | ⟨0, _⟩ => rfl | ⟨1, _⟩ => rfl | ⟨2, _⟩ => rfl), e]

/-! ## The prefix sums -/

/-- The window a prefix sum slides over the last axis. -/
abbrev win : Shape := ⟨3, ![1, 1, 8]⟩

theorem win_numel : win.numel = 8 := by decide

theorem win_symm (n : Fin win.numel) : win.rowMajor.symm n = ix3 0 0 ⟨n.val, n.isLt.trans_eq win_numel⟩ :=
  (Equiv.symm_apply_eq _).mpr (Fin.ext (by rw [Shape.rowMajor_val_three]; show n.val = (0 * 1 + 0) * 8 + n.val; omega))

/-- A left fold of additions of reals, in the extended reals. -/
theorem foldl_real {ι : Type} (l : List ι) (g : EReal → ι → EReal) (v : ι → ℝ)
    (hg : ∀ r n, g r n = r + ((v n : ℝ) : EReal)) (a : ℝ) :
    l.foldl g ((a : ℝ) : EReal) = ((a + (l.map v).sum : ℝ) : EReal) := by
  induction l generalizing a with
  | nil => simp
  | cons n l ih => rw [List.foldl_cons, hg, ← EReal.coe_add, ih, List.map_cons, List.sum_cons, add_assoc]

/-- A sum over the window ending at `s` of what is zero before the axis begins is the sum up to `s`. -/
theorem window_sum (f : ℕ → ℝ) (s : Fin 8) :
    ∑ n ∈ Finset.range 8, (if 7 ≤ s.val + n then f (s.val + n - 7) else 0) = ∑ t : Fin 8, if t.val < s.val + 1 then f t.val else 0 := by
  fin_cases s <;> simp [Finset.sum_range_succ, Fin.sum_univ_eight]

/-- The prefix sums of a row of reals. -/
theorem cumsum_apply (x : FVec Ideal S8192x1024x8 .f32) (i : Fin 8192) (j : Fin 1024) (f : ℕ → ℝ)
    (hx : ∀ s : Fin 8, x (ix3 i j s) = ((f s.val : ℝ) : EReal)) (init : FVec Ideal S_ .f32) (hi : ∀ q, init q = (((0 : ℝ) : ℝ) : EReal))
    (h : S8192x1024x8.ReduceWindows (![1, 1, 8] : Fin 3 → Nat) ![1, 1, 1] ![0, 0, 7] ![0, 0, 0] S8192x1024x8) (hu : 0 < S_.numel)
    (s : Fin 8) :
    Host.reduceWindowAdd ![1, 1, 8] ![1, 1, 1] ![0, 0, 7] ![0, 0, 0] x init h hu (ix3 i j s)
      = ((∑ t : Fin 8, if t.val < s.val + 1 then f t.val else 0 : ℝ) : EReal) := by
  unfold Host.reduceWindowAdd
  rw [Ideal.hostReduceWindowAdd_def]
  unfold Ideal.hostReduceWindowAdd Host.reduceWindow
  rw [hi]
  refine (foldl_real _ _ (fun n => if 7 ≤ s.val + n.val then f (s.val + n.val - 7) else 0) (fun r n => ?_) 0).trans ?_
  · have hn : n.val < 8 := n.isLt.trans_eq win_numel
    have w0 : (win.rowMajor.symm n 0).val = 0 := by rw [win_symm]; rfl
    have w1 : (win.rowMajor.symm n 1).val = 0 := by rw [win_symm]; rfl
    have w2 : (win.rowMajor.symm n 2).val = n.val := by rw [win_symm]
    dsimp only
    congr 1
    split
    · next hin =>
      have h2 := hin 2
      change 7 ≤ s.val * 1 + (win.rowMajor.symm n 2).val ∧ s.val * 1 + (win.rowMajor.symm n 2).val - 7 < 8 at h2
      rw [w2] at h2
      rw [if_pos (by omega)]
      refine (congrArg x (funext fun a => Fin.ext ?_)).trans (hx ⟨s.val + n.val - 7, by omega⟩)
      match a with
      | ⟨0, _⟩ => show i.val * 1 + (win.rowMajor.symm n 0).val - 0 = i.val; rw [w0]; omega
      | ⟨1, _⟩ => show j.val * 1 + (win.rowMajor.symm n 1).val - 0 = j.val; rw [w1]; omega
      | ⟨2, _⟩ => show s.val * 1 + (win.rowMajor.symm n 2).val - 7 = s.val + n.val - 7; rw [w2]; omega
    · next hin =>
      rw [if_neg]
      refine fun hle => hin fun a => ?_
      · match a with
        | ⟨0, _⟩ => show 0 ≤ i.val * 1 + (win.rowMajor.symm n 0).val ∧ i.val * 1 + (win.rowMajor.symm n 0).val - 0 < 8192
                    rw [w0]; omega
        | ⟨1, _⟩ => show 0 ≤ j.val * 1 + (win.rowMajor.symm n 1).val ∧ j.val * 1 + (win.rowMajor.symm n 1).val - 0 < 1024
                    rw [w1]; omega
        | ⟨2, _⟩ => show 7 ≤ s.val * 1 + (win.rowMajor.symm n 2).val ∧ s.val * 1 + (win.rowMajor.symm n 2).val - 7 < 8
                    rw [w2]; omega
  · rw [zero_add, ← Fin.sum_univ_def, Fin.sum_univ_eq_sum_range (fun n => if 7 ≤ s.val + n then f (s.val + n - 7) else 0),
      win_numel, window_sum]

include hb1 hb2 in
/-- The prefix sums with a zero before them: at `k`, the sum of the shares before segment `k`. -/
theorem cdf_apply (i : Fin 8192) (j : Fin 1024) (k : Fin 9) :
    val_main_v28 (F := Ideal) x0 x2 x3 x4 x5 (ix3 i j k) = ((Spline.sharesBelow (taus x0 x2 x4 i j) k.val : ℝ) : EReal) := by
  unfold val_main_v28
  rcases Nat.eq_zero_or_pos k.val with h0 | h0
  · rw [concatenate_pair_apply_left 2 _ _ concatenates_S8192x1024x1_S8192x1024x8_S8192x1024x9_d2 (ix3 i j k) rfl (ix3 i j (0 : Fin 1) : S8192x1024x1.Idx)
      (fun a => match a with | ⟨0, _⟩ => rfl | ⟨1, _⟩ => rfl | ⟨2, _⟩ => h0.symm)]
    rw [val_main_v26_apply, val_main_cst_3_apply]
    refine (show _ = Ideal.ofBits .f32 0x00000000#32 from rfl).trans (Lits.f0.trans ?_)
    congr 1
    rw [h0]; simp [Spline.sharesBelow]
  · have hk : k.val - 1 < 8 := by omega
    rw [concatenate_pair_apply_right 2 _ _ concatenates_S8192x1024x1_S8192x1024x8_S8192x1024x9_d2 (ix3 i j k) rfl rfl
      (ix3 i j ⟨k.val - 1, hk⟩ : S8192x1024x8.Idx)
      (fun a => match a with | ⟨0, _⟩ => fun _ => rfl | ⟨1, _⟩ => fun _ => rfl | ⟨2, _⟩ => fun h => absurd rfl h)
      (show k.val - 1 + 1 = k.val by omega)]
    unfold val_main_v27
    refine (cumsum_apply _ i j (fun n => if h : n < 8 then Spline.share (taus x0 x2 x4 i j) ⟨n, h⟩ else 0)
      (fun s => (softmax_apply x0 x2 x3 x4 x5 hb1 hb2 i j s).trans (by rw [dif_pos s.isLt])) _
      (fun q => by rw [val_main_call0_call0_v0_apply, val_main_call0_call0_cst_apply]; exact Lits.f0) _ _ _).trans ?_
    congr 1
    refine Finset.sum_congr rfl fun t _ => ?_
    rw [dif_pos t.isLt]
    show (if t.val < k.val - 1 + 1 then _ else _) = _
    rw [Nat.sub_add_cancel h0]

end Cert.ReferenceIdeal.Shares

end
-- ==== Proof.RefLookup.lean ====
/-
  What the reference looks up. Where the segment's number is one of 0 to 7, the two lookups (the segment's share, and
  the sum of the shares before it) test it in range, and read the row at it; so the first result's right half is the
  spline's value there, and the row's number of the second is the sum of the logarithms of the shares.
-/
module

public import proofs.«01_k».proof.Proof.RefShares

@[expose] public section

noncomputable section

namespace Cert.ReferenceIdeal.Lookup

open Idealize.ShloMosaic Idealize.ShloMosaic.ValueIdx
open Cert.ReferenceIdeal Cert.ReferenceIdeal.Gen Cert.ReferenceIdeal.Read Cert.ReferenceIdeal.Shares

/-! ## A lookup along the last axis -/

/-- The lookups' dimension numbers: two batching axes, the last one looked up. -/
abbrev lookDims (N : Nat) (wf : GatherDims.WF ⟨3, ![8192, 1024, N]⟩ S8192x1024x1x1 S8192x1024x1 [] [2] [0, 1] [2] [0, 1] 3 ![1, 1, 1]) :
    GatherDims ⟨3, ![8192, 1024, N]⟩ S8192x1024x1x1 S8192x1024x1 where
  offsetDims := []
  collapsedSliceDims := [2]
  operandBatchingDims := [0, 1]
  startIndicesBatchingDims := [0, 1]
  startIndexMap := [2]
  indexVectorDim := 3
  sliceSizes := ![1, 1, 1]
  wf := wf

theorem look_apply {α : Type} {N : Nat}
    (wf : GatherDims.WF ⟨3, ![8192, 1024, N]⟩ S8192x1024x1x1 S8192x1024x1 [] [2] [0, 1] [2] [0, 1] 3 ![1, 1, 1])
    (x : (⟨3, ![8192, 1024, N]⟩ : Shape).Idx → α) (idx : IVec S8192x1024x1x1 32) (i : Fin 8192) (j : Fin 1024) (k : Fin N)
    (hk : (idx (ix4 i j 0 0)).toInt.toNat = k.val) :
    Host.gather (lookDims N wf) x idx (ix3 i j 0) = x (ix3 i j k) := by
  unfold Host.gather
  congr 1
  funext a
  refine Fin.ext ?_
  show (lookDims N wf).start (ix3 i j 0) idx a + (lookDims N wf).batchCoord (ix3 i j 0) a
      + (lookDims N wf).offCoord (ix3 i j 0) a = _
  have hb : ∀ a : Fin 3, a ∈ (lookDims N wf).operandBatchingDims →
      (lookDims N wf).start (ix3 i j 0) idx a + (lookDims N wf).batchCoord (ix3 i j 0) a + (lookDims N wf).offCoord (ix3 i j 0) a
        = (lookDims N wf).batchCoord (ix3 i j 0) a := fun a ha => by
    rw [GatherDims.start_batching _ _ _ _ ha,
      GatherDims.offCoord_eq_zero _ _ _ (fun h => ((GatherDims.mem_sKept _ _).mp h).2 ha)]
    omega
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · have h : (0 : Fin 3) ∈ (lookDims N wf).operandBatchingDims := List.mem_cons_self
    rw [hb 0 h]
    unfold GatherDims.batchCoord
    rw [dif_pos h]
    rfl
  · have h : (1 : Fin 3) ∈ (lookDims N wf).operandBatchingDims := List.mem_cons_of_mem _ (List.mem_singleton.mpr rfl)
    rw [hb 1 h]
    unfold GatherDims.batchCoord
    rw [dif_pos h]
    rfl
  · have h : (2 : Fin 3) ∈ (lookDims N wf).startIndexMap := List.mem_singleton.mpr rfl
    rw [GatherDims.batchCoord_eq_zero _ _ _ (show (2 : Fin 3) ∉ ([0, 1] : List (Fin 3)) by decide),
      GatherDims.offCoord_eq_zero _ _ _ (fun h => ((GatherDims.mem_sKept _ _).mp h).1 (List.mem_singleton.mpr rfl))]
    unfold GatherDims.start
    rw [dif_pos h]
    have hsi : (lookDims N wf).siIdx (ix3 i j 0) ⟨List.idxOf (2 : Fin 3) (lookDims N wf).startIndexMap,
        List.idxOf_lt_length_iff.2 h⟩ = (ix4 i j 0 0 : S8192x1024x1x1.Idx) := by
      funext b; refine Fin.ext ?_
      match b with
      | ⟨0, _⟩ => rfl
      | ⟨1, _⟩ => rfl
      | ⟨2, _⟩ => rfl
      | ⟨3, _⟩ => rfl
    rw [hsi]
    show min (idx (ix4 i j 0 0)).toInt.toNat (N - 1) + 0 + 0 = k.val
    rw [hk]
    have := k.isLt
    omega

theorem fold_one {α : Type} (op : α → α → α) [Std.Commutative op] [Std.Associative op] (b : α) (f : Fin 1 → α) :
    (Finset.univ : Finset (Fin 1)).fold op b f = op (f 0) b := by
  rw [Finset.univ_unique, Finset.fold_singleton]; rfl

theorem select_one {α : Type} (a b : α) : Scalar.select 1#1 a b = a := if_pos rfl

/-- The conjunction along an axis of size one. -/
theorem all_one (x : IVec S8192x1024x1x1 1) (init : IVec S_ 1) (h : S8192x1024x1x1.ReducesTo [3] S8192x1024x1) (hu : 0 < S_.numel)
    (i : Fin 8192) (j : Fin 1024) (hi : ∀ q, init q = 1#1) (hx : x (ix4 i j 0 0) = 1#1) :
    Host.reduce IntOp.andi x init h hu (ix3 i j 0) = 1#1 := by
  rw [Host.reduce_eq_fold_single _ _ _ _ (by decide : S8192x1024x1x1.Reduces [3] S8192x1024x1)]
  refine (fold_one IntOp.andi _ _).trans ?_
  rw [hi]
  refine (congrArg (fun w => IntOp.andi w 1#1) (Eq.trans (congrArg x (funext fun a => Fin.ext ?_)) hx)).trans (by decide)
  match a with
  | ⟨0, _⟩ => rfl
  | ⟨1, _⟩ => rfl
  | ⟨2, _⟩ => rfl
  | ⟨3, _⟩ => rfl

/-! ## Words from 0 to 7 -/

theorem word_nonneg (n : BitVec 32) : ∀ k : Fin 8,
    Scalar.select (IntOp.cmpi .slt (BitVec.ofNat 32 k.val) 0#32) n (BitVec.ofNat 32 k.val) = BitVec.ofNat 32 k.val := by
  intro k
  rw [show IntOp.cmpi .slt (BitVec.ofNat 32 k.val) 0#32 = 0#1 by revert k; decide]
  rfl

theorem word_ge : ∀ k : Fin 8, IntOp.cmpi .sge (BitVec.ofNat 32 k.val) 0#32 = 1#1 := by decide
theorem word_le7 : ∀ k : Fin 8, IntOp.cmpi .sle (BitVec.ofNat 32 k.val) 7#32 = 1#1 := by decide
theorem word_le8 : ∀ k : Fin 8, IntOp.cmpi .sle (BitVec.ofNat 32 k.val) 8#32 = 1#1 := by decide
theorem word_nat : ∀ k : Fin 8, (BitVec.ofNat 32 k.val).toInt.toNat = k.val := by decide
theorem word_int : ∀ k : Fin 8, (BitVec.ofNat 32 k.val).toInt = (k.val : ℤ) := by decide

/-! ## The reference's two lookups -/

variable (x0 : FVec Ideal S8192x2048 .f32) (x2 : FVec Ideal S1024x64 .f32) (x3 : FVec Ideal S64 .f32)
  (x4 : FVec Ideal S64x8192 .f32) (x5 : FVec Ideal S8192 .f32)
variable (hb1 : ∀ q, x3 q = (0 : EReal)) (hb2 : ∀ q, x5 q = (0 : EReal))
variable (i : Fin 8192) (j : Fin 1024) (k : Fin 8) (hk : val_main_v38 (F := Ideal) x0 (ix2 i j) = BitVec.ofNat 32 k.val)

theorem idx_seg : (idx_main_v39 (ix3 i j 0) : S8192x1024.Idx) = ix2 i j :=
  funext fun a => Fin.ext (match a with | ⟨0, _⟩ => rfl | ⟨1, _⟩ => rfl)

include hk in
theorem seg_apply : val_main_v39 (F := Ideal) x0 (ix3 i j 0) = BitVec.ofNat 32 k.val := by
  rw [val_main_v39_apply, idx_seg, hk]

include hk in
theorem word2 : val_main_call2_v5 (F := Ideal) x0 (ix4 i j 0 0) = BitVec.ofNat 32 k.val := by
  have e : (idx_main_call2_v5 (ix4 i j 0 0) : S8192x1024x1.Idx) = ix3 i j 0 := funext fun a => Fin.ext (by
    match a with
    | ⟨0, _⟩ => show (((i.val * 1024 + j.val) * 1 + 0) * 1 + 0) / 1024 = i.val; omega
    | ⟨1, _⟩ => show (((i.val * 1024 + j.val) * 1 + 0) * 1 + 0) / 1 % 1024 = j.val; omega
    | ⟨2, _⟩ => rfl)
  rw [val_main_call2_v5_apply, e, val_main_call2_v4_apply, val_main_call2_v1_apply, seg_apply x0 i j k hk,
    val_main_call2_v0_apply, val_main_call2_c_apply, word_nonneg]

include hk in
theorem word3 : val_main_call3_v5 (F := Ideal) x0 (ix4 i j 0 0) = BitVec.ofNat 32 k.val := by
  have e : (idx_main_call3_v5 (ix4 i j 0 0) : S8192x1024x1.Idx) = ix3 i j 0 := funext fun a => Fin.ext (by
    match a with
    | ⟨0, _⟩ => show (((i.val * 1024 + j.val) * 1 + 0) * 1 + 0) / 1024 = i.val; omega
    | ⟨1, _⟩ => show (((i.val * 1024 + j.val) * 1 + 0) * 1 + 0) / 1 % 1024 = j.val; omega
    | ⟨2, _⟩ => rfl)
  rw [val_main_call3_v5_apply, e, val_main_call3_v4_apply, val_main_call3_v1_apply, seg_apply x0 i j k hk,
    val_main_call3_v0_apply, val_main_call3_c_apply, word_nonneg]

include hb1 hb2 hk in
/-- The first lookup: the segment's share. -/
theorem share_apply : val_main_v40 (F := Ideal) x0 x2 x3 x4 x5 (ix3 i j 0) = ((Spline.share (taus x0 x2 x4 i j) k : ℝ) : EReal) := by
  have hin : val_main_call2_v12 (F := Ideal) x0 (ix3 i j 0) = 1#1 := by
    unfold val_main_call2_v12
    refine all_one _ _ _ _ i j (fun q => val_main_call2_c_3_apply q) ?_
    rw [val_main_call2_v11_apply, val_main_call2_v7_apply, val_main_call2_v10_apply, word2 x0 i j k hk, val_main_call2_v6_apply,
      val_main_call2_c_2_apply, val_main_call2_v9_apply, val_main_call2_v8_apply, val_main_call2_c_1_apply, word_ge, word_le7]
    decide
  rw [val_main_v40_apply, hin, select_one]
  unfold val_main_call2_v13
  refine Eq.trans ?_ (softmax_apply x0 x2 x3 x4 x5 hb1 hb2 i j k)
  exact look_apply (N := 8) gather_S8192x1024x8_S8192x1024x1x1_S8192x1024x1_n_2_01_01_2_3_111_wf _ _ i j k
    (by rw [word2 x0 i j k hk, word_nat])

include hb1 hb2 hk in
/-- The second lookup: the sum of the shares before the segment. -/
theorem cdf_look : val_main_v48 (F := Ideal) x0 x2 x3 x4 x5 (ix3 i j 0) = ((Spline.sharesBelow (taus x0 x2 x4 i j) k.val : ℝ) : EReal) := by
  have hin : val_main_call3_v12 (F := Ideal) x0 (ix3 i j 0) = 1#1 := by
    unfold val_main_call3_v12
    refine all_one _ _ _ _ i j (fun q => val_main_call3_c_3_apply q) ?_
    rw [val_main_call3_v11_apply, val_main_call3_v7_apply, val_main_call3_v10_apply, word3 x0 i j k hk, val_main_call3_v6_apply,
      val_main_call3_c_2_apply, val_main_call3_v9_apply, val_main_call3_v8_apply, val_main_call3_c_1_apply, word_ge, word_le8]
    decide
  rw [val_main_v48_apply, hin, select_one]
  unfold val_main_call3_v13
  refine Eq.trans ?_
    (cdf_apply x0 x2 x3 x4 x5 hb1 hb2 i j ⟨k.val, by omega⟩)
  exact look_apply (N := 9) gather_S8192x1024x9_S8192x1024x1x1_S8192x1024x1_n_2_01_01_2_3_111_wf _ _ i j ⟨k.val, by omega⟩
    (by rw [word3 x0 i j k hk, word_nat])

/-! ## The results -/

/-- The first result's left half is the argument's. -/
theorem res_left : val_main_v52 (F := Ideal) x0 x2 x3 x4 x5 (ix2 i ⟨j.val, by omega⟩) = x0 (ix2 i ⟨j.val, by omega⟩) := by
  unfold val_main_v52
  rw [concatenate_pair_apply_left 1 _ _ concatenates_S8192x1024_S8192x1024_S8192x2048_d1 (ix2 i ⟨j.val, by omega⟩) rfl (ix2 i j : S8192x1024.Idx)
      (fun a => match a with | ⟨0, _⟩ => rfl | ⟨1, _⟩ => rfl), val_main_v0_apply]
  exact congrArg x0 (funext fun a => Fin.ext (match a with | ⟨0, _⟩ => rfl | ⟨1, _⟩ => rfl))

include hb1 hb2 hk in
/-- The first result's right half: the spline of the row's exponents at the argument. -/
theorem res_right (x : ℝ) (hx : x0 (ix2 i ⟨1024 + j.val, by omega⟩) = (x : EReal)) :
    val_main_v52 (F := Ideal) x0 x2 x3 x4 x5 (ix2 i ⟨1024 + j.val, by omega⟩) = ((Spline.phi (taus x0 x2 x4 i j) x k : ℝ) : EReal) := by
  unfold val_main_v52
  rw [concatenate_pair_apply_right 1 _ _ concatenates_S8192x1024_S8192x1024_S8192x2048_d1 (ix2 i ⟨1024 + j.val, by omega⟩) rfl rfl
      (ix2 i j : S8192x1024.Idx)
      (fun a => match a with | ⟨0, _⟩ => fun _ => rfl | ⟨1, _⟩ => fun h => absurd rfl h)
      (show j.val + 1024 = 1024 + j.val by omega)]
  have e : (idx_main_v51 (ix2 i j) : S8192x1024x1.Idx) = ix3 i j 0 := funext fun a => Fin.ext (by
    match a with
    | ⟨0, _⟩ => show (i.val * 1024 + j.val) / 1024 = i.val; omega
    | ⟨1, _⟩ => show (i.val * 1024 + j.val) / 1 % 1024 = j.val; omega
    | ⟨2, _⟩ => rfl)
  have ex : val_main_v41 (F := Ideal) x0 (ix3 i j 0) = (x : EReal) := by
    rw [val_main_v41_apply, val_main_v1_apply, ← hx]
    exact congrArg x0 (funext fun a => Fin.ext (match a with | ⟨0, _⟩ => rfl | ⟨1, _⟩ => by show _ = 1024 + j.val; first | rfl | (show 1024 + 1 * j.val = _; omega) | (show j.val + 1024 = _; omega)))
  have e8 : (FloatOps.ofBits .f32 0x3E000000#32 : Ideal .f32) = ((1 / 8 : ℝ) : EReal) := Lits.feighth
  have es : (FloatOps.sitofp .f32 (BitVec.ofNat 32 k.val) : Ideal .f32) = (((k.val : ℕ) : ℝ) : EReal) := by
    show ((((BitVec.ofNat 32 k.val).toInt : ℤ) : ℝ) : EReal) = _
    rw [word_int]; norm_cast
  rw [val_main_v51_apply, e, val_main_v50_apply, cdf_look x0 x2 x3 x4 x5 hb1 hb2 i j k hk, val_main_v49_apply,
    share_apply x0 x2 x3 x4 x5 hb1 hb2 i j k hk, val_main_v47_apply, val_main_v45_apply, ex, val_main_v44_apply, val_main_v42_apply,
    seg_apply x0 i j k hk, es, val_main_v43_apply, val_main_cst_7_apply, val_main_v46_apply, val_main_cst_8_apply, e8]
  exact Spline.reference_phi (taus x0 x2 x4 i j) x k

include hb1 hb2 in
/-- The second result: the log density less the sum of the logarithms of the row's shares. -/
theorem res_log (x1 : FVec Ideal S8192x1 .f32) (ks : Fin 1024 → Fin 8)
    (hks : ∀ j : Fin 1024, val_main_v38 (F := Ideal) x0 (ix2 i j) = BitVec.ofNat 32 (ks j).val) :
    val_main_v55 (F := Ideal) x0 x1 x2 x3 x4 x5 (ix2 i 0)
      = x1 (ix2 i 0) - ((∑ j : Fin 1024, Real.log (Spline.share (taus x0 x2 x4 i j) (ks j)) : ℝ) : EReal) := by
  rw [val_main_v55_apply, val_main_v54_apply, val_main_cst_9_apply,
    show (FloatOps.ofBits .f32 0x00000000#32 : Ideal .f32) = ((0 : ℝ) : EReal) from Lits.f0]
  refine congrArg (fun z : EReal => x1 (ix2 i 0) - z) ?_
  have e : ∀ j : Fin 1024, val_main_v53 (F := Ideal) x0 x2 x3 x4 x5 (idx_main_v54 (ix2 i 0) j)
      = ((Real.log (Spline.share (taus x0 x2 x4 i j) (ks j)) : ℝ) : EReal) := fun j => by
    rw [show (idx_main_v54 (ix2 i 0) j : S8192x1024x1.Idx) = ix3 i j 0 from
        funext fun a => Fin.ext (match a with | ⟨0, _⟩ => rfl | ⟨1, _⟩ => rfl | ⟨2, _⟩ => rfl),
      val_main_v53_apply, share_apply x0 x2 x3 x4 x5 hb1 hb2 i j (ks j) (hks j)]
    exact Spline.log_real (Spline.share_pos _ _)
  refine (congrArg (fun z : EReal => ((0 : ℝ) : EReal) + z) ((Finset.sum_congr rfl fun j _ => e j).trans (Spline.coe_sum _ _))).trans ?_
  rw [← EReal.coe_add, zero_add]

end Cert.ReferenceIdeal.Lookup

end
-- ==== Proof.Mask.lean ====
/-
  The mask and the precondition, read at an index: where the mask holds, the argument is a real number from zero to
  one and the reference's segment is the whole part of eight times it; and under the precondition both biases are zero.
-/
module

public import proofs.«01_k».proof.Proof.RefLookup
public import proofs.«01_k».proof.Proof.Gen.Pre_zero_biases
public import proofs.«01_k».proof.Proof.Gen.On_one_segment

@[expose] public section

noncomputable section

namespace Cert.Mask

open Idealize.ShloMosaic Idealize.ShloMosaic.ValueIdx
open Cert.ReferenceIdeal Cert.ReferenceIdeal.Gen Cert.ReferenceIdeal.Read

/-! ## One-bit words -/

theorem and_one {a b : BitVec 1} (h : IntOp.andi a b = 1#1) : a = 1#1 ∧ b = 1#1 := by
  rcases BitVec.eq_zero_or_eq_one a with rfl | rfl <;> rcases BitVec.eq_zero_or_eq_one b with rfl | rfl <;>
    first | exact ⟨rfl, rfl⟩ | exact absurd h (by decide)

theorem ofBool_one {b : Bool} (h : BitVec.ofBool b = 1#1) : b = true := by
  cases b
  · exact absurd h (by decide)
  · rfl

/-- A conjunction over a finite set, from one: every member holds. -/
theorem fold_and {ι : Type} (S : Finset ι) (f : ι → BitVec 1) (b : BitVec 1) (h : S.fold IntOp.andi b f = 1#1) :
    ∀ i ∈ S, f i = 1#1 := by
  classical
  induction S using Finset.induction_on with
  | empty => exact fun i hi => absurd hi (Finset.notMem_empty i)
  | insert a S ha ih =>
    rw [Finset.fold_insert ha] at h
    intro i hi
    rcases Finset.mem_insert.mp hi with rfl | hi
    · exact (and_one h).1
    · exact ih (and_one h).2 i hi

/-! ## The mask -/

variable (x0 : FVec Ideal S8192x2048 .f32) (x1 : FVec Ideal S8192x1 .f32) (x2 : FVec Ideal S1024x64 .f32)
  (x3 : FVec Ideal S64 .f32) (x4 : FVec Ideal S64x8192 .f32) (x5 : FVec Ideal S8192 .f32)

/-- The arguments' right halves, and the reference's segments of them. -/
abbrev xb : FVec Ideal S8192x1024 .f32 := val_main_v1 (F := Ideal) x0
abbrev seg : IVec S8192x1024 32 := val_main_v38 (F := Ideal) x0

/-- The mask's condition on one component, by the reference's own segment. -/
def cond : IVec S8192x1024 1 :=
  andi (andi (cmpf .oge (xb x0) (broadcastInDim S8192x1024 ![] bcast_S_S8192x1024 (constant S_ .f32 0x00000000#32)))
      (cmpf .olt (xb x0) (broadcastInDim S8192x1024 ![] bcast_S_S8192x1024 (constant S_ .f32 0x3F800000#32))))
    (cmpf .oeq (Host.floor (mulf (xb x0) (broadcastInDim S8192x1024 ![] bcast_S_S8192x1024 (constant S_ .f32 0x41000000#32))))
      (sitofp .f32 (seg x0)))

theorem fst_eq : (Cert.On_one_segment.fn (F := Ideal) x0 x1 x2 x3 x4 x5).1
    = concatenate S8192x2048 1 [⟨S8192x1024, broadcastInDim S8192x1024 ![] bcast_S_S8192x1024 (constantI S_ 1 1#1)⟩, ⟨S8192x1024, cond x0⟩]
        Cert.On_one_segment.Gen.concatenates_S8192x1024_S8192x1024_S8192x2048_d1 := rfl

/-- The function's first part, in the reference's names. -/
theorem fn_eq : Cert.On_one_segment.fn (F := Ideal) x0 x1 x2 x3 x4 x5
    = Cert.On_one_segment.fn_part1 (F := Ideal) (xb x0) (seg x0)
        (andi (cmpf .oge (xb x0) (broadcastInDim S8192x1024 ![] bcast_S_S8192x1024 (constant S_ .f32 0x00000000#32)))
          (cmpf .olt (xb x0) (broadcastInDim S8192x1024 ![] bcast_S_S8192x1024 (constant S_ .f32 0x3F800000#32))))
        (broadcastInDim S8192x1024 ![] bcast_S_S8192x1024 (constant S_ .f32 0x41000000#32)) := rfl

/-- The rows' conjunctions. -/
def rowAll (p : IVec S8192x1024 1) : IVec S8192 1 :=
  Host.reduce IntOp.andi p (constantI S_ 1 1#1) Cert.On_one_segment.Gen.reducesTo_S8192x1024_S8192_d1 Cert.On_one_segment.Gen.h_S_

/-- Its last part's second result: the rows' conjunctions, as a column. -/
theorem part_snd (a : FVec Ideal S8192x1024 .f32) (s : IVec S8192x1024 32) (p : IVec S8192x1024 1) (e : FVec Ideal S8192x1024 .f32) :
    (Cert.On_one_segment.fn_part1 (F := Ideal) a s p e).2
      = broadcastInDim S8192x1 ![0] Cert.On_one_segment.Gen.bcast_S8192_S8192x1_0
        (rowAll (andi p (cmpf .oeq (Host.floor (mulf a e)) (sitofp .f32 s)))) := by
  unfold Cert.On_one_segment.fn_part1 rowAll
  dsimp only

theorem snd_eq : (Cert.On_one_segment.fn (F := Ideal) x0 x1 x2 x3 x4 x5).2
    = broadcastInDim S8192x1 ![0] Cert.On_one_segment.Gen.bcast_S8192_S8192x1_0 (rowAll (cond x0)) := by
  rw [fn_eq, part_snd]; rfl

theorem fst_right (i : Fin 8192) (j : Fin 1024)
    (h : (Cert.On_one_segment.fn (F := Ideal) x0 x1 x2 x3 x4 x5).1 (ix2 i ⟨1024 + j.val, by omega⟩) = 1#1) :
    cond x0 (ix2 i j) = 1#1 := by
  rw [fst_eq] at h
  exact (concatenate_pair_apply_right (t := S8192x2048) (s₁ := S8192x1024) (s₂ := S8192x1024) 1 _ _ _ (ix2 i ⟨1024 + j.val, by omega⟩) rfl rfl (ix2 i j : S8192x1024.Idx)
      (fun a => match a with | ⟨0, _⟩ => fun _ => rfl | ⟨1, _⟩ => fun h => absurd rfl h)
      (show j.val + 1024 = 1024 + j.val by omega)).symm.trans h

theorem snd_row (i : Fin 8192) (h : (Cert.On_one_segment.fn (F := Ideal) x0 x1 x2 x3 x4 x5).2 (ix2 i 0) = 1#1) (j : Fin 1024) :
    cond x0 (ix2 i j) = 1#1 := by
  rw [snd_eq, broadcastInDim_apply _ _ _ (ix2 i 0) (ix1 i) (fun a => match a with | ⟨0, _⟩ => rfl)] at h
  unfold rowAll at h
  rw [Host.reduce_eq_fold_single _ _ _ _ (by decide : S8192x1024.Reduces [1] S8192)] at h
  refine Eq.trans (congrArg (cond x0) (funext fun a => Fin.ext ?_)) (fold_and _ _ _ h j (Finset.mem_univ _))
  match a with
  | ⟨0, _⟩ => rfl
  | ⟨1, _⟩ => rfl

/-- An extended real from zero to one whose eightfold's whole part is a word's number: a real, and the word its segment. -/
theorem real_seg (X : EReal) (w : BitVec 32) (h1 : ((0 : ℝ) : EReal) ≤ X) (h2 : X < ((1 : ℝ) : EReal))
    (h3 : Ideal.liftRound Int.floor (X * ((8 : ℝ) : EReal)) = (((w.toInt : ℤ) : ℝ) : EReal)) :
    ∃ (x : ℝ) (k : Fin 8), X = (x : EReal) ∧ ⌊x * 8⌋ = ((k.val : ℕ) : ℤ) ∧ w = BitVec.ofNat 32 k.val := by
  induction X with
  | bot => exact absurd h1 (not_le.mpr (EReal.bot_lt_coe _))
  | top => exact absurd h2 (not_lt.mpr le_top)
  | coe x =>
    rw [← EReal.coe_mul, Ideal.liftRound_coe] at h3
    have h4 : ⌊x * 8⌋ = w.toInt := Int.cast_injective (EReal.coe_injective h3)
    have a0 : (0 : ℝ) ≤ x := EReal.coe_le_coe_iff.mp h1
    have a1 : x < 1 := EReal.coe_lt_coe_iff.mp h2
    have f0 : 0 ≤ ⌊x * 8⌋ := Int.floor_nonneg.mpr (by linarith)
    have f8 : ⌊x * 8⌋ < 8 := Int.floor_lt.mpr (by push_cast; linarith)
    refine ⟨x, ⟨⌊x * 8⌋.toNat, by omega⟩, rfl, (Int.toNat_of_nonneg f0).symm, ?_⟩
    show w = BitVec.ofNat 32 ⌊x * 8⌋.toNat
    rw [← BitVec.ofInt_natCast, Int.toNat_of_nonneg f0, h4, BitVec.ofInt_toInt]

/-- Where the condition holds: the argument is a real number, of segment `k`, and `k` is the reference's segment. -/
theorem cond_seg (i : Fin 8192) (j : Fin 1024) (h : cond x0 (ix2 i j) = 1#1) :
    ∃ (x : ℝ) (k : Fin 8), x0 (ix2 i ⟨1024 + j.val, by omega⟩) = (x : EReal) ∧ ⌊x * 8⌋ = ((k.val : ℕ) : ℤ)
      ∧ val_main_v38 (F := Ideal) x0 (ix2 i j) = BitVec.ofNat 32 k.val := by
  have ex : xb x0 (ix2 i j) = x0 (ix2 i ⟨1024 + j.val, by omega⟩) := by
    show val_main_v1 (F := Ideal) x0 (ix2 i j) = _
    rw [val_main_v1_apply]
    exact congrArg x0 (funext fun a => Fin.ext (match a with | ⟨0, _⟩ => rfl | ⟨1, _⟩ => rfl))
  obtain ⟨h12, h3⟩ := and_one (show IntOp.andi _ _ = 1#1 from h)
  obtain ⟨h1, h2⟩ := and_one (show IntOp.andi _ _ = 1#1 from h12)
  have g1 : Ideal.ofBits .f32 0x00000000#32 ≤ xb x0 (ix2 i j) := of_decide_eq_true (ofBool_one h1)
  have g2 : xb x0 (ix2 i j) < Ideal.ofBits .f32 0x3F800000#32 := of_decide_eq_true (ofBool_one h2)
  have g3 : Ideal.liftRound Int.floor (xb x0 (ix2 i j) * Ideal.ofBits .f32 0x41000000#32)
    = ((((seg x0 (ix2 i j)).toInt : ℤ) : ℝ) : EReal) := of_decide_eq_true (ofBool_one h3)
  rw [ex, Lits.f0] at g1
  rw [ex, Lits.f1] at g2
  rw [ex, Lits.f8] at g3
  exact real_seg _ _ g1 g2 g3

/-! ## The precondition -/

variable (hz : ∀ i, Cert.Pre_zero_biases.fn (F := Ideal) x0 x1 x2 x3 x4 x5 i = 1#1)

include hz in
theorem biases : (∀ q, x3 q = (0 : EReal)) ∧ (∀ q, x5 q = (0 : EReal)) := by
  have h : ∀ (a : Fin 64) (b : Fin 8192), x3 (ix1 a) = (0 : EReal) ∧ x5 (ix1 b) = (0 : EReal) := fun a b => by
    obtain ⟨h1, h2⟩ := and_one (show IntOp.andi _ _ = 1#1 from hz (ix2 a b))
    rw [broadcastInDim_apply _ _ _ (ix2 a b) (ix2 a 0 : Cert.Pre_zero_biases.S64x1.Idx)
      (fun e => match e with | ⟨0, _⟩ => rfl | ⟨1, _⟩ => rfl)] at h1
    rw [broadcastInDim_apply _ _ _ (ix2 a b) (ix2 0 b : Cert.Pre_zero_biases.S1x8192.Idx)
      (fun e => match e with | ⟨0, _⟩ => rfl | ⟨1, _⟩ => rfl)] at h2
    have g1 := of_decide_eq_true (ofBool_one h1)
    have g2 := of_decide_eq_true (ofBool_one h2)
    rw [broadcastInDim_apply _ _ _ (ix2 a 0) (ix1 a) (fun e => match e with | ⟨0, _⟩ => rfl)] at g1
    rw [broadcastInDim_apply _ _ _ (ix2 0 b) (ix1 b) (fun e => match e with | ⟨0, _⟩ => rfl)] at g2
    exact ⟨g1.trans Lits.f0, g2.trans Lits.f0⟩
  exact ⟨fun q => (congrArg x3 (eq_ix1 q)).trans (h (q 0) 0).1, fun q => (congrArg x5 (eq_ix1 q)).trans (h 0 (q 0)).2⟩

end Cert.Mask

end
-- ==== Proof.Equation.lean ====
/-
  The equation: where the mask holds and the biases are zero, the kernel's results are the reference's. Both are the
  argument itself in the left half, the spline of the same exponents in the right half, and the log density less the
  same sum of logarithms.
-/
module

public import proofs.«01_k».proof.Proof.Arrays
public import proofs.«01_k».proof.Proof.Mask

@[expose] public section

noncomputable section

namespace Cert.Equation

open Idealize.ShloMosaic Idealize.ShloMosaic.TcCoe Idealize.ShloMosaic.ValueIdx Idealize.SL.Sem
open Cert.KernelIdeal Cert.KernelIdeal.Arrays

variable (m : (ℓ : Loc nD τ sig) → Buf (Elt Ideal) ℓ) (c : Dev nD)

/-- The biases, which the kernel does not read. -/
abbrev ab1 : FVec Ideal S64 .f32 := m ((c : Thread nD τ).loc main_arg3)
abbrev ab2 : FVec Ideal S8192 .f32 := m ((c : Thread nD τ).loc main_arg5)

/-- The mask of the arguments. -/
abbrev mask : IVec S8192x2048 1 × IVec S8192x1 1 :=
  Cert.On_one_segment.fn (F := Ideal) (ax m c) (ald m c) (aw1 m c) (ab1 m c) (aw2 m c) (ab2 m c)

variable (hb1 : ∀ q, ab1 m c q = (0 : EReal)) (hb2 : ∀ q, ab2 m c q = (0 : EReal))

include hb1 hb2 in
/-- The first result, at every index the mask selects. -/
theorem first (i : S8192x2048.Idx) (h : (mask m c).1 i = 1#1) :
    Cert.ReferenceIdeal.Read.val_main_v52 (F := Ideal) (ax m c) (aw1 m c) (ab1 m c) (aw2 m c) (ab2 m c) i
      = (phiArr m c : FVec Ideal S8192x2048 .f32) i := by
  obtain ⟨a, b, rfl⟩ : ∃ (a : Fin 8192) (b : Fin 2048), i = ix2 a b := ⟨i 0, i 1, eq_ix2 i⟩
  obtain ⟨n, hn⟩ := b
  rcases Nat.lt_or_ge n 1024 with hb | hb
  · obtain ⟨j, rfl⟩ : ∃ j : Fin 1024, n = j.val := ⟨⟨n, hb⟩, rfl⟩
    rw [phiArr_left]
    exact Cert.ReferenceIdeal.Lookup.res_left (ax m c) (aw1 m c) (ab1 m c) (aw2 m c) (ab2 m c) a j
  · obtain ⟨j, rfl⟩ : ∃ j : Fin 1024, n = 1024 + j.val := ⟨⟨n - 1024, by omega⟩, by show n = 1024 + (n - 1024); omega⟩
    obtain ⟨x, k, hx, hk, hs⟩ := Cert.Mask.cond_seg (ax m c) a j (Cert.Mask.fst_right _ _ _ _ _ _ a j h)
    rw [phiArr_right m c a j x k hx hk]
    exact Cert.ReferenceIdeal.Lookup.res_right (ax m c) (aw1 m c) (ab1 m c) (aw2 m c) (ab2 m c) hb1 hb2 a j k hs x hx

include hb1 hb2 in
/-- The second result, at every row the mask selects. -/
theorem second (i : S8192x1.Idx) (h : (mask m c).2 i = 1#1) :
    Cert.ReferenceIdeal.Read.val_main_v55 (F := Ideal) (ax m c) (ald m c) (aw1 m c) (ab1 m c) (aw2 m c) (ab2 m c) i
      = (logRes m c : FVec Ideal S8192x1 .f32) i := by
  obtain ⟨a, rfl⟩ : ∃ a : Fin 8192, i = ix2 a 0 := ⟨i 0, (eq_ix2 i).trans (congrArg (ix2 (i 0)) (Subsingleton.elim (α := Fin 1) _ _))⟩
  have hrow := fun j => Cert.Mask.cond_seg (ax m c) a j (Cert.Mask.snd_row _ _ _ _ _ _ a h j)
  choose x k hx hk hs using hrow
  rw [logRes_row m c a x k hx hk]
  refine (Cert.ReferenceIdeal.Lookup.res_log (ax m c) (aw1 m c) (ab1 m c) (aw2 m c) (ab2 m c) hb1 hb2 a (ald m c) k hs).trans ?_
  rw [zero_sub, EReal.coe_neg, sub_eq_add_neg]
  rfl

end Cert.Equation

end
-- ==== Proof.lean ====
/-
  The certificate. The kernel's two printed forms and the reference run, leave their arguments and end with every counter
  at zero; and the kernel's results are the reference's wherever the mask holds, the biases being zero (Equation.lean).
-/
module

public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_zero_biases
public import proofs.«01_k».proof.Proof.Gen.On_one_segment
public import Idealize.ShloMosaic.Lib.Quiescent
public import Idealize.ShloMosaic.Adequacy
public import Idealize.ShloMosaic.Init

@[expose] public section

noncomputable section

namespace Cert.Proof

open Idealize.ShloMosaic Idealize.SL.Sem

/-- The reference's run leaves its arguments, and every counter reads zero: it has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2,
    Idealize.ShloMosaic.sem_eq_zero_of_no_sems (by decide) r.2⟩) (Cert.ReferenceIdeal.Value.run (F := Ideal) m g)

/-- The value claim: both programs end with the kernel's arrays, the reference where the mask selects. -/
theorem value : Cert.algebraic_KernelIdeal_ReferenceIdeal_on_one_segment_pre_zero_biases := by
  intro m g m' g' hpre hargs
  refine ⟨fun c => Cert.KernelIdeal.Arrays.phiArr m c, fun c => Cert.KernelIdeal.Arrays.logRes m c, ?_, ?_⟩
  · refine (θ_run Cert.KernelIdeal.defs _ _).mono (fun r h c => ?_) (Cert.KernelIdeal.Arrays.run m g)
    exact ⟨fun i _ => congrFun (h c).1 i, fun i _ => congrFun (h c).2.1 i, (h c).2.2⟩
  · refine (θ_run Cert.ReferenceIdeal.defs _ _).mono (fun r h c => ?_) (Cert.ReferenceIdeal.Value.run (F := Ideal) m' g')
    obtain ⟨e0, e1, e2, e3, e4, e5⟩ := hargs c
    obtain ⟨hb1, hb2⟩ := Cert.Mask.biases _ _ _ _ _ _ (fun i => congrFun (hpre c) i)
    refine ⟨fun i hi => ?_, fun i hi => ?_, (h c).2.2⟩
    · rw [(h c).1, Cert.ReferenceIdeal.Read.val_main_v52_eq, e0, e2, e3, e4, e5]
      exact Cert.Equation.first m c hb1 hb2 i hi
    · rw [(h c).2.1, Cert.ReferenceIdeal.Read.val_main_v55_eq, e0, e1, e2, e3, e4, e5]
      exact Cert.Equation.second m c hb1 hb2 i hi

theorem claim : Cert.Claim :=
  ⟨Cert.Kernel.Gen.facts, Cert.KernelIdeal.Gen.facts, Cert.ReferenceIdeal.Gen.facts, Cert.Pre_zero_biases.Gen.facts,
    Cert.On_one_segment.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, value⟩

end Cert.Proof

end
